-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_two_labels [hPre_two_labels : Cert.Pre_two_labels.Facts] (m : (ℓ : Loc Cert.KernelIdeal.nD Cert.KernelIdeal.τ Cert.KernelIdeal.sig) → Buf (Elt Ideal) ℓ) : Prop :=
  ∀ c : Dev Cert.KernelIdeal.nD,
    (Cert.Pre_two_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_two_labels [hPre_two_labels : Cert.Pre_two_labels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_two_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_two_labels [hKernelIdeal : Cert.KernelIdeal.Facts] [hPre_two_labels : Cert.Pre_two_labels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_two_labels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_two_labels [hReferenceIdeal : Cert.ReferenceIdeal.Facts] [hPre_two_labels : Cert.Pre_two_labels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_two_labels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log2e" .bf16 0x3FB9#16 (((Real.log 2)⁻¹ : ℝ) : EReal)

def algebraic_KernelIdeal_ReferenceIdeal_pre_two_labels [hKernelIdeal : Cert.KernelIdeal.Facts] [hReferenceIdeal : Cert.ReferenceIdeal.Facts] [hPre_two_labels : Cert.Pre_two_labels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_two_labels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_two_labels : Cert.Pre_two_labels.Facts),
    quiescent_Kernel (hKernel := hKernel)
    ∧ quiescent_KernelIdeal (hKernelIdeal := hKernelIdeal)
    ∧ quiescent_KernelIdeal_pre_two_labels (hKernelIdeal := hKernelIdeal) (hPre_two_labels := hPre_two_labels)
    ∧ quiescent_ReferenceIdeal (hReferenceIdeal := hReferenceIdeal)
    ∧ quiescent_ReferenceIdeal_pre_two_labels (hReferenceIdeal := hReferenceIdeal) (hPre_two_labels := hPre_two_labels)
    ∧ preserves_Kernel_KernelIdeal
    ∧ algebraic_KernelIdeal_ReferenceIdeal_pre_two_labels (hKernelIdeal := hKernelIdeal) (hReferenceIdeal := hReferenceIdeal) (hPre_two_labels := hPre_two_labels)
-- ==== Pre_two_labels.lean ====
abbrev S256x27x1024 : Shape := ⟨3, ![256, 27, 1024]⟩
abbrev S256x27 : Shape := ⟨2, ![256, 27]⟩
abbrev S256x26 : Shape := ⟨2, ![256, 26]⟩
abbrev S_ : Shape := ⟨0, ![]⟩
abbrev S256 : Shape := ⟨1, ![256]⟩
abbrev S27 : Shape := ⟨1, ![27]⟩
abbrev S1x27 : Shape := ⟨2, ![1, 27]⟩
abbrev S256x1 : Shape := ⟨2, ![256, 1]⟩
abbrev S1x1 : Shape := ⟨2, ![1, 1]⟩

class Facts : Prop where
  slices_S256x27_S256x26_0_1 : S256x27.Slices ![0, 1] S256x26
  bcast_S_S256x26 : S_.BroadcastsInDim S256x26 (![] : Fin 0 → Fin S256x26.rank)
  reducesTo_S256x26_S256_d1 : S256x26.ReducesTo [1] S256
  h_S_ : 0 < S_.numel
  bcast_S_S256 : S_.BroadcastsInDim S256 (![] : Fin 0 → Fin S256.rank)
  bcast_S27_S1x27_1 : S27.BroadcastsInDim S1x27 (![1] : Fin 1 → Fin S1x27.rank)
  bcast_S256_S256x1_0 : S256.BroadcastsInDim S256x1 (![0] : Fin 1 → Fin S256x1.rank)
  bcast_S1x27_S256x27_0_1 : S1x27.BroadcastsInDim S256x27 (![0, 1] : Fin 2 → Fin S256x27.rank)
  bcast_S256x1_S256x27_0_1 : S256x1.BroadcastsInDim S256x27 (![0, 1] : Fin 2 → Fin S256x27.rank)
  slices_S256x27_S256x1_0_0 : S256x27.Slices ![0, 0] S256x1
  shapeCasts_S256x1_S256 : S256x1.ShapeCasts S256
  reducesTo_S256_S_d0 : S256.ReducesTo [0] S_
  slices_S256x27_S1x1_0_0 : S256x27.Slices ![0, 0] S1x1
  shapeCasts_S1x1_S_ : S1x1.ShapeCasts S_
  bcast_S_S256x27 : S_.BroadcastsInDim S256x27 (![] : Fin 0 → Fin S256x27.rank)
  reducesTo_S256x27_S_d0_1 : S256x27.ReducesTo [0, 1] S_

variable [Facts]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def fn_argmax {F : FTy → Type} [FloatOps F] (arg0 : IVec S256x26 1) : IVec S256 32 :=
  let v0 : IVec S256x26 32 := iotaInDim S256x26 32 1
  let c : IVec S_ 1 := constantI S_ 1 0#1
  let c_0 : IVec S_ 32 := constantI S_ 32 0#32
  let v1_0 : IVec S256 1 := (fun x y u v j => (Host.reduce2 reducer_argmax_i1_i32 x y u v reducesTo_S256x26_S256_d1 h_S_ j).1) arg0 v0 c c_0
  let v1_1 : IVec S256 32 := (fun x y u v j => (Host.reduce2 reducer_argmax_i1_i32 x y u v reducesTo_S256x26_S256_d1 h_S_ j).2) arg0 v0 c c_0
  v1_1

def fn_part1 {F : FTy → Type} [FloatOps F] (main_arg1 : IVec S256x27 32) (main_v11 : IVec S256x27 1) (main_v16 : IVec S_ 1) (main_v19 : IVec S256x27 32) : IVec S_ 1 :=
  let main_v20 : IVec S256x27 1 := cmpi .ne main_arg1 main_v19
  let main_v21 : IVec S256x27 1 := andi main_v11 main_v20
  let main_c_3 : IVec S_ 1 := constantI S_ 1 0#1
  let main_v22 : IVec S_ 1 := (fun x v => Host.reduce IntOp.ori x v reducesTo_S256x27_S_d0_1 h_S_) main_v21 main_c_3
  let main_v23 : IVec S_ 1 := andi main_v16 main_v22
  main_v23

def fn {F : FTy → Type} [FloatOps F] (main_arg0 : FVec F S256x27x1024 .f32) (main_arg1 : IVec S256x27 32) : IVec S_ 1 :=
  let main_v0 : IVec S256x26 32 := (extractStridedSlice S256x26 ![0, 1] · slices_S256x27_S256x26_0_1) main_arg1
  let main_c : IVec S_ 32 := constantI S_ 32 0#32
  let main_v1 : IVec S256x26 32 := broadcastInDim S256x26 ![] bcast_S_S256x26 main_c
  let main_v2 : IVec S256x26 1 := cmpi .eq main_v0 main_v1
  let main_v3 : IVec S256 32 := fn_argmax (F := F) main_v2
  let main_c_0 : IVec S_ 32 := constantI S_ 32 1#32
  let main_v4 : IVec S256 32 := broadcastInDim S256 ![] bcast_S_S256 main_c_0
  let main_v5 : IVec S256 32 := addi main_v3 main_v4
  let main_v6 : IVec S27 32 := iotaInDim S27 32 0
  let main_v7 : IVec S1x27 32 := broadcastInDim S1x27 ![1] bcast_S27_S1x27_1 main_v6
  let main_v8 : IVec S256x1 32 := broadcastInDim S256x1 ![0] bcast_S256_S256x1_0 main_v5
  let main_v9 : IVec S256x27 32 := broadcastInDim S256x27 ![0, 1] bcast_S1x27_S256x27_0_1 main_v7
  let main_v10 : IVec S256x27 32 := broadcastInDim S256x27 ![0, 1] bcast_S256x1_S256x27_0_1 main_v8
  let main_v11 : IVec S256x27 1 := cmpi .slt main_v9 main_v10
  let main_v12 : IVec S256x1 32 := (extractStridedSlice S256x1 ![0, 0] · slices_S256x27_S256x1_0_0) main_arg1
  let main_v13 : IVec S256 32 := shapeCast S256 main_v12 shapeCasts_S256x1_S256
  let main_c_1 : IVec S_ 32 := constantI S_ 32 0#32
  let main_v14 : IVec S256 32 := broadcastInDim S256 ![] bcast_S_S256 main_c_1
  let main_v15 : IVec S256 1 := cmpi .ne main_v13 main_v14
  let main_c_2 : IVec S_ 1 := constantI S_ 1 1#1
  let main_v16 : IVec S_ 1 := (fun x v => Host.reduce IntOp.andi x v reducesTo_S256_S_d0 h_S_) main_v15 main_c_2
  let main_v17 : IVec S1x1 32 := (extractStridedSlice S1x1 ![0, 0] · slices_S256x27_S1x1_0_0) main_arg1
  let main_v18 : IVec S_ 32 := shapeCast S_ main_v17 shapeCasts_S1x1_S_
  let main_v19 : IVec S256x27 32 := broadcastInDim S256x27 ![] bcast_S_S256x27 main_v18
  fn_part1 (F := F) main_arg1 main_v11 main_v16 main_v19
-- ==== Kernel.lean ====
abbrev S256x27x1024 : Shape := ⟨3, ![256, 27, 1024]⟩
abbrev S256x27 : Shape := ⟨2, ![256, 27]⟩
abbrev S1x1 : Shape := ⟨2, ![1, 1]⟩
abbrev S6912 : Shape := ⟨1, ![6912]⟩
abbrev S6912x1 : Shape := ⟨2, ![6912, 1]⟩
abbrev S6912x256 : Shape := ⟨2, ![6912, 256]⟩
abbrev S1x6912 : Shape := ⟨2, ![1, 6912]⟩
abbrev S6912x1024 : Shape := ⟨2, ![6912, 1024]⟩
abbrev S2x1x128 : Shape := ⟨3, ![2, 1, 128]⟩
abbrev S_ : Shape := ⟨0, ![]⟩
abbrev S256 : Shape := ⟨1, ![256]⟩
abbrev S256x1 : Shape := ⟨2, ![256, 1]⟩
abbrev S1x256x27 : Shape := ⟨3, ![1, 256, 27]⟩
abbrev S1 : Shape := ⟨1, ![1]⟩
abbrev S1x1x1 : Shape := ⟨3, ![1, 1, 1]⟩
abbrev S32x27x1024 : Shape := ⟨3, ![32, 27, 1024]⟩
abbrev S864x1024 : Shape := ⟨2, ![864, 1024]⟩
abbrev S864 : Shape := ⟨1, ![864]⟩
abbrev S864x1 : Shape := ⟨2, ![864, 1]⟩
abbrev S3456x1024 : Shape := ⟨2, ![3456, 1024]⟩
abbrev S256x1024 : Shape := ⟨2, ![256, 1024]⟩
abbrev S3456x256 : Shape := ⟨2, ![3456, 256]⟩
abbrev S1x256 : Shape := ⟨2, ![1, 256]⟩
abbrev S1x1x128 : Shape := ⟨3, ![1, 1, 128]⟩
abbrev S3456x128 : Shape := ⟨2, ![3456, 128]⟩
abbrev S3456 : Shape := ⟨1, ![3456]⟩
abbrev S3456x1 : Shape := ⟨2, ![3456, 1]⟩
abbrev S1x3456x1 : Shape := ⟨3, ![1, 3456, 1]⟩
abbrev S2x1x1 : Shape := ⟨3, ![2, 1, 1]⟩
abbrev S1x2x1x1 : Shape := ⟨4, ![1, 2, 1, 1]⟩
abbrev S1x1x1x1 : Shape := ⟨4, ![1, 1, 1, 1]⟩

abbrev nBuf : Space → Nat
  | .hbm => 12
  | .vmem => 22
  | .smem => 0
  | _ => 0

abbrev bufTy : (tb : Table) → Fin (tcTables nBuf tb) → BufTy
  | .hbm, ⟨0, _⟩ => ⟨S256x27x1024, .f32⟩
  | .hbm, ⟨1, _⟩ => ⟨S256x27, .i32⟩
  | .hbm, ⟨2, _⟩ => ⟨S256x27, .f32⟩
  | .hbm, ⟨3, _⟩ => ⟨S1x1, .f32⟩
  | .hbm, ⟨4, _⟩ => ⟨S6912, .f32⟩
  | .hbm, ⟨5, _⟩ => ⟨S6912x1, .f32⟩
  | .hbm, ⟨6, _⟩ => ⟨S6912x256, .f32⟩
  | .hbm, ⟨7, _⟩ => ⟨S1x6912, .f32⟩
  | .hbm, ⟨8, _⟩ => ⟨S6912x1024, .bf16⟩
  | .hbm, ⟨9, _⟩ => ⟨S2x1x128, .f32⟩
  | .hbm, ⟨10, _⟩ => ⟨S1x1, .f32⟩
  | .hbm, ⟨11, _⟩ => ⟨S_, .f32⟩
  | .local _ .vmem, ⟨0, _⟩ => ⟨S256x27, .i32⟩
  | .local _ .vmem, ⟨1, _⟩ => ⟨S256x27, .f32⟩
  | .local _ .vmem, ⟨2, _⟩ => ⟨S1x1, .f32⟩
  | .local _ .vmem, ⟨3, _⟩ => ⟨S32x27x1024, .f32⟩
  | .local _ .vmem, ⟨4, _⟩ => ⟨S32x27x1024, .f32⟩
  | .local _ .vmem, ⟨5, _⟩ => ⟨S864x1024, .bf16⟩
  | .local _ .vmem, ⟨6, _⟩ => ⟨S864x1024, .bf16⟩
  | .local _ .vmem, ⟨7, _⟩ => ⟨S3456x1024, .bf16⟩
  | .local _ .vmem, ⟨8, _⟩ => ⟨S3456x1024, .bf16⟩
  | .local _ .vmem, ⟨9, _⟩ => ⟨S256x1024, .bf16⟩
  | .local _ .vmem, ⟨10, _⟩ => ⟨S256x1024, .bf16⟩
  | .local _ .vmem, ⟨11, _⟩ => ⟨S3456x256, .f32⟩
  | .local _ .vmem, ⟨12, _⟩ => ⟨S3456x256, .f32⟩
  | .local _ .vmem, ⟨13, _⟩ => ⟨S1x256, .f32⟩
  | .local _ .vmem, ⟨14, _⟩ => ⟨S1x256, .f32⟩
  | .local _ .vmem, ⟨15, _⟩ => ⟨S1x1x128, .f32⟩
  | .local _ .vmem, ⟨16, _⟩ => ⟨S1x1x128, .f32⟩
  | .local _ .vmem, ⟨17, _⟩ => ⟨S3456x128, .f32⟩
  | .local _ .vmem, ⟨18, _⟩ => ⟨S3456x128, .f32⟩
  | .local _ .vmem, ⟨19, _⟩ => ⟨S2x1x128, .f32⟩
  | .local _ .vmem, ⟨20, _⟩ => ⟨S1x1, .f32⟩
  | .local _ .vmem, ⟨21, _⟩ => ⟨S1x1, .f32⟩
  | _, _ => ⟨S256x27x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_call0_v0_1 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg2_1 : Ref sig .tc := ⟨.vmem, 12, rfl⟩
abbrev cc2_stg3_0 : Ref sig .tc := ⟨.vmem, 13, rfl⟩
abbrev cc2_stg3_1 : Ref sig .tc := ⟨.vmem, 14, rfl⟩
abbrev cc2_stg4_0 : Ref sig .tc := ⟨.vmem, 15, rfl⟩
abbrev cc2_stg4_1 : Ref sig .tc := ⟨.vmem, 16, rfl⟩
abbrev cc2_scratch0 : Ref sig .tc := ⟨.vmem, 17, rfl⟩
abbrev cc2_scratch1 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg2_0 : Ref sig .tc := ⟨.vmem, 21, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc2_sem0_0 : DmaSem sig := 7
abbrev cc2_sem0_1 : DmaSem sig := 8
abbrev cc2_sem1_0 : DmaSem sig := 9
abbrev cc2_sem1_1 : DmaSem sig := 10
abbrev cc2_sem2_0 : DmaSem sig := 11
abbrev cc2_sem2_1 : DmaSem sig := 12
abbrev cc2_sem3_0 : DmaSem sig := 13
abbrev cc2_sem3_1 : DmaSem sig := 14
abbrev cc2_sem4_0 : DmaSem sig := 15
abbrev cc2_sem4_1 : DmaSem sig := 16
abbrev cc3_sem0_0 : DmaSem sig := 17
abbrev cc3_sem1_0 : DmaSem sig := 18
abbrev cc3_sem2_0 : DmaSem sig := 19

abbrev nD : Nat := 1
abbrev τ : Topo := Topo.v7x

variable {F : FTy → Type} [FloatOps F]

abbrev grid0 : Pipeline.Grid := .none

abbrev stage0_0 : Fin 1 → Memref sig .tc .vmem S256x27 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x27 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x27x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S864x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![2, 27], ![false, false]⟩

def k2_cond2 (i : grid2.Coords) : BitVec 1 :=
  let arg1 : BitVec 32 := BitVec.ofNat 32 (i 1).val
  let c26_i32 : BitVec 32 := 26#32
  let v46 : BitVec 1 := Scalar.cmpi .eq arg1 c26_i32
  let v47 : BitVec 32 := Scalar.extui v46
  let c0_i32_23 : BitVec 32 := 0#32
  let v48 : BitVec 1 := Scalar.cmpi .ne v47 c0_i32_23
  v48

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S3456x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S256x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S3456x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x1x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := .none

abbrev stage3_0 : Fin 1 → Memref sig .tc .vmem S2x1x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S256x27x1024 : Shape := ⟨3, ![256, 27, 1024]⟩
abbrev S256x27 : Shape := ⟨2, ![256, 27]⟩
abbrev S256x26 : Shape := ⟨2, ![256, 26]⟩
abbrev S_ : Shape := ⟨0, ![]⟩
abbrev S256 : Shape := ⟨1, ![256]⟩
abbrev S27 : Shape := ⟨1, ![27]⟩
abbrev S1x27 : Shape := ⟨2, ![1, 27]⟩
abbrev S256x1 : Shape := ⟨2, ![256, 1]⟩
abbrev S6912 : Shape := ⟨1, ![6912]⟩
abbrev S6912x1024 : Shape := ⟨2, ![6912, 1024]⟩
abbrev S6912x1 : Shape := ⟨2, ![6912, 1]⟩
abbrev S1024x6912 : Shape := ⟨2, ![1024, 6912]⟩
abbrev S6912x6912 : Shape := ⟨2, ![6912, 6912]⟩
abbrev S1x6912 : Shape := ⟨2, ![1, 6912]⟩

abbrev nBuf : Space → Nat
  | .hbm => 107
  | .vmem => 0
  | .smem => 0
  | _ => 0

abbrev bufTy : (tb : Table) → Fin (tcTables nBuf tb) → BufTy
  | .hbm, ⟨0, _⟩ => ⟨S256x27x1024, .f32⟩
  | .hbm, ⟨1, _⟩ => ⟨S256x27, .i32⟩
  | .hbm, ⟨2, _⟩ => ⟨S256x26, .i32⟩
  | .hbm, ⟨3, _⟩ => ⟨S_, .i32⟩
  | .hbm, ⟨4, _⟩ => ⟨S256x26, .i32⟩
  | .hbm, ⟨5, _⟩ => ⟨S256x26, .i1⟩
  | .hbm, ⟨6, _⟩ => ⟨S256x26, .i32⟩
  | .hbm, ⟨7, _⟩ => ⟨S_, .i1⟩
  | .hbm, ⟨8, _⟩ => ⟨S_, .i32⟩
  | .hbm, ⟨9, _⟩ => ⟨S256, .i1⟩
  | .hbm, ⟨10, _⟩ => ⟨S256, .i32⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S27, .i32⟩
  | .hbm, ⟨15, _⟩ => ⟨S1x27, .i32⟩
  | .hbm, ⟨16, _⟩ => ⟨S256x1, .i32⟩
  | .hbm, ⟨17, _⟩ => ⟨S256x27, .i32⟩
  | .hbm, ⟨18, _⟩ => ⟨S256x27, .i32⟩
  | .hbm, ⟨19, _⟩ => ⟨S256x27, .i1⟩
  | .hbm, ⟨20, _⟩ => ⟨S6912, .i1⟩
  | .hbm, ⟨21, _⟩ => ⟨S6912x1024, .f32⟩
  | .hbm, ⟨22, _⟩ => ⟨S6912x1024, .f32⟩
  | .hbm, ⟨23, _⟩ => ⟨S_, .f32⟩
  | .hbm, ⟨24, _⟩ => ⟨S6912, .f32⟩
  | .hbm, ⟨25, _⟩ => ⟨S6912x1, .f32⟩
  | .hbm, ⟨26, _⟩ => ⟨S6912x1, .f32⟩
  | .hbm, ⟨27, _⟩ => ⟨S_, .f32⟩
  | .hbm, ⟨28, _⟩ => ⟨S_, .f32⟩
  | .hbm, ⟨29, _⟩ => ⟨S6912x1, .f32⟩
  | .hbm, ⟨30, _⟩ => ⟨S6912x1, .f32⟩
  | .hbm, ⟨31, _⟩ => ⟨S6912x1024, .f32⟩
  | .hbm, ⟨32, _⟩ => ⟨S6912x1024, .f32⟩
  | .hbm, ⟨33, _⟩ => ⟨S1024x6912, .f32⟩
  | .hbm, ⟨34, _⟩ => ⟨S6912x6912, .f32⟩
  | .hbm, ⟨35, _⟩ => ⟨S6912, .i32⟩
  | .hbm, ⟨36, _⟩ => ⟨S6912x1, .i32⟩
  | .hbm, ⟨37, _⟩ => ⟨S1x6912, .i32⟩
  | .hbm, ⟨38, _⟩ => ⟨S6912x6912, .i32⟩
  | .hbm, ⟨39, _⟩ => ⟨S6912x6912, .i32⟩
  | .hbm, ⟨40, _⟩ => ⟨S6912x6912, .i1⟩
  | .hbm, ⟨41, _⟩ => ⟨S6912x1, .i1⟩
  | .hbm, ⟨42, _⟩ => ⟨S1x6912, .i1⟩
  | .hbm, ⟨43, _⟩ => ⟨S6912x6912, .i1⟩
  | .hbm, ⟨44, _⟩ => ⟨S6912x6912, .i1⟩
  | .hbm, ⟨45, _⟩ => ⟨S6912x6912, .i1⟩
  | .hbm, ⟨46, _⟩ => ⟨S6912x6912, .i32⟩
  | .hbm, ⟨47, _⟩ => ⟨S6912x6912, .i32⟩
  | .hbm, ⟨48, _⟩ => ⟨S_, .i32⟩
  | .hbm, ⟨49, _⟩ => ⟨S6912x6912, .i32⟩
  | .hbm, ⟨50, _⟩ => ⟨S6912x6912, .i32⟩
  | .hbm, ⟨51, _⟩ => ⟨S6912x6912, .i1⟩
  | .hbm, ⟨52, _⟩ => ⟨S6912x6912, .i1⟩
  | .hbm, ⟨53, _⟩ => ⟨S6912x1, .i1⟩
  | .hbm, ⟨54, _⟩ => ⟨S6912x1, .i1⟩
  | .hbm, ⟨55, _⟩ => ⟨S6912x6912, .i1⟩
  | .hbm, ⟨56, _⟩ => ⟨S6912x6912, .i1⟩
  | .hbm, ⟨57, _⟩ => ⟨S6912x6912, .i1⟩
  | .hbm, ⟨58, _⟩ => ⟨S6912x6912, .i1⟩
  | .hbm, ⟨59, _⟩ => ⟨S6912x6912, .i1⟩
  | .hbm, ⟨60, _⟩ => ⟨S6912x1, .i1⟩
  | .hbm, ⟨61, _⟩ => ⟨S6912x1, .i1⟩
  | .hbm, ⟨62, _⟩ => ⟨S6912x6912, .i1⟩
  | .hbm, ⟨63, _⟩ => ⟨S6912x6912, .i1⟩
  | .hbm, ⟨64, _⟩ => ⟨S6912x6912, .i1⟩
  | .hbm, ⟨65, _⟩ => ⟨S6912x6912, .f32⟩
  | .hbm, ⟨66, _⟩ => ⟨S_, .f32⟩
  | .hbm, ⟨67, _⟩ => ⟨S_, .f32⟩
  | .hbm, ⟨68, _⟩ => ⟨S6912x6912, .f32⟩
  | .hbm, ⟨69, _⟩ => ⟨S6912x6912, .f32⟩
  | .hbm, ⟨70, _⟩ => ⟨S6912x6912, .f32⟩
  | .hbm, ⟨71, _⟩ => ⟨S_, .f32⟩
  | .hbm, ⟨72, _⟩ => ⟨S6912, .f32⟩
  | .hbm, ⟨73, _⟩ => ⟨S6912, .f32⟩
  | .hbm, ⟨74, _⟩ => ⟨S_, .f32⟩
  | .hbm, ⟨75, _⟩ => ⟨S_, .f32⟩
  | .hbm, ⟨76, _⟩ => ⟨S6912x6912, .f32⟩
  | .hbm, ⟨77, _⟩ => ⟨S6912x6912, .f32⟩
  | .hbm, ⟨78, _⟩ => ⟨S6912x6912, .f32⟩
  | .hbm, ⟨79, _⟩ => ⟨S_, .f32⟩
  | .hbm, ⟨80, _⟩ => ⟨S6912, .f32⟩
  | .hbm, ⟨81, _⟩ => ⟨S6912, .f32⟩
  | .hbm, ⟨82, _⟩ => ⟨S6912, .f32⟩
  | .hbm, ⟨83, _⟩ => ⟨S_, .f32⟩
  | .hbm, ⟨84, _⟩ => ⟨S6912, .f32⟩
  | .hbm, ⟨85, _⟩ => ⟨S6912, .f32⟩
  | .hbm, ⟨86, _⟩ => ⟨S6912, .f32⟩
  | .hbm, ⟨87, _⟩ => ⟨S6912, .f32⟩
  | .hbm, ⟨88, _⟩ => ⟨S6912, .i1⟩
  | .hbm, ⟨89, _⟩ => ⟨S6912, .f32⟩
  | .hbm, ⟨90, _⟩ => ⟨S6912, .f32⟩
  | .hbm, ⟨91, _⟩ => ⟨S6912, .f32⟩
  | .hbm, ⟨92, _⟩ => ⟨S6912, .f32⟩
  | .hbm, ⟨93, _⟩ => ⟨S6912, .f32⟩
  | .hbm, ⟨94, _⟩ => ⟨S6912, .f32⟩
  | .hbm, ⟨95, _⟩ => ⟨S6912, .f32⟩
  | .hbm, ⟨96, _⟩ => ⟨S6912, .f32⟩
  | .hbm, ⟨97, _⟩ => ⟨S6912, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S6912, .f32⟩
  | .hbm, ⟨103, _⟩ => ⟨S6912, .f32⟩
  | .hbm, ⟨104, _⟩ => ⟨S_, .f32⟩
  | .hbm, ⟨105, _⟩ => ⟨S_, .f32⟩
  | .hbm, ⟨106, _⟩ => ⟨S_, .f32⟩
  | _, _ => ⟨S256x27x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_c : Ref sig .tc := ⟨.hbm, 7, rfl⟩
abbrev main_call0_c_0 : Ref sig .tc := ⟨.hbm, 8, rfl⟩
abbrev main_call0_v1_0 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_call1_v2 : Ref sig .tc := ⟨.hbm, 25, rfl⟩
abbrev main_v14 : Ref sig .tc := ⟨.hbm, 26, rfl⟩
abbrev main_cst : Ref sig .tc := ⟨.hbm, 27, rfl⟩
abbrev main_call2_v0 : Ref sig .tc := ⟨.hbm, 28, rfl⟩
abbrev main_call2_v1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_1 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_2 : Ref sig .tc := ⟨.hbm, 66, rfl⟩
abbrev main_call3_v0 : Ref sig .tc := ⟨.hbm, 67, rfl⟩
abbrev main_call3_v1 : Ref sig .tc := ⟨.hbm, 68, rfl⟩
abbrev main_v50 : Ref sig .tc := ⟨.hbm, 69, rfl⟩
abbrev main_v51 : Ref sig .tc := ⟨.hbm, 70, rfl⟩
abbrev main_cst_3 : Ref sig .tc := ⟨.hbm, 71, rfl⟩
abbrev main_v52 : Ref sig .tc := ⟨.hbm, 72, rfl⟩
abbrev main_v53 : Ref sig .tc := ⟨.hbm, 73, rfl⟩
abbrev main_cst_4 : Ref sig .tc := ⟨.hbm, 74, rfl⟩
abbrev main_call4_v0 : Ref sig .tc := ⟨.hbm, 75, rfl⟩
abbrev main_call4_v1 : Ref sig .tc := ⟨.hbm, 76, rfl⟩
abbrev main_v54 : Ref sig .tc := ⟨.hbm, 77, rfl⟩
abbrev main_v55 : Ref sig .tc := ⟨.hbm, 78, rfl⟩
abbrev main_cst_5 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call5_cst : Ref sig .tc := ⟨.hbm, 83, rfl⟩
abbrev main_call5_v0 : Ref sig .tc := ⟨.hbm, 84, rfl⟩
abbrev main_call5_v1 : Ref sig .tc := ⟨.hbm, 85, rfl⟩
abbrev main_call5_v2 : Ref sig .tc := ⟨.hbm, 86, rfl⟩
abbrev main_call5_v3 : Ref sig .tc := ⟨.hbm, 87, rfl⟩
abbrev main_call5_v4 : Ref sig .tc := ⟨.hbm, 88, rfl⟩
abbrev main_call5_v5 : Ref sig .tc := ⟨.hbm, 89, rfl⟩
abbrev main_call5_v6 : Ref sig .tc := ⟨.hbm, 90, rfl⟩
abbrev main_call5_v7 : Ref sig .tc := ⟨.hbm, 91, rfl⟩
abbrev main_call5_v8 : Ref sig .tc := ⟨.hbm, 92, rfl⟩
abbrev main_call5_v9 : Ref sig .tc := ⟨.hbm, 93, rfl⟩
abbrev main_call5_v10 : Ref sig .tc := ⟨.hbm, 94, rfl⟩
abbrev main_call5_v11 : Ref sig .tc := ⟨.hbm, 95, rfl⟩
abbrev main_v59 : Ref sig .tc := ⟨.hbm, 96, rfl⟩
abbrev main_v60 : Ref sig .tc := ⟨.hbm, 97, rfl⟩
abbrev main_cst_6 : Ref sig .tc := ⟨.hbm, 98, rfl⟩
abbrev main_v61 : Ref sig .tc := ⟨.hbm, 99, rfl⟩
abbrev main_cst_7 : Ref sig .tc := ⟨.hbm, 100, rfl⟩
abbrev main_call6_v0 : Ref sig .tc := ⟨.hbm, 101, rfl⟩
abbrev main_call6_v1 : Ref sig .tc := ⟨.hbm, 102, rfl⟩
abbrev main_v62 : Ref sig .tc := ⟨.hbm, 103, rfl⟩
abbrev main_cst_8 : Ref sig .tc := ⟨.hbm, 104, rfl⟩
abbrev main_v63 : Ref sig .tc := ⟨.hbm, 105, rfl⟩
abbrev main_v64 : Ref sig .tc := ⟨.hbm, 106, rfl⟩

abbrev nD : Nat := 1
abbrev τ : Topo := Topo.v7x

variable {F : FTy → Type} [FloatOps F]
-- ==== Proof.Ideal.Prep.lean ====
/- Call 0 of the kernel (labels and validity): what its body leaves, and that the pipeline may run it. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What window `w` of call 0 reads at grid point `t`: its block of the array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Before the body runs, input window 0 of call 0 holds its block, for any proof data that leave it there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- A rectangle that the body of call 0 loads from or stores into. -/
abbrev r0_0 : Rect S256x27 := Rect.unit (s := S256x27) ![0, 0] S256x27.size inb_S256x27_S256x27_0_0
/-- A rectangle that the body of call 0 loads from or stores into. -/
abbrev r0_1 : Rect S1x1 := Rect.unit (s := S1x1) ![0, 0] S1x1.size inb_S1x1_S1x1_0_0

/-- What the body of call 0 leaves in output window 1, from the blocks it reads. -/
def out0_1 (x0 : Vec F S256x27 .i32) : Vec F S256x27 .f32 :=
  View.canon [⟨r0_0, k0_pay2 (View.ld x0 r0_0)⟩]

/-- The store into output window 1 of call 0 covers the window. -/
theorem cover0_1 (p0 : Vec F S256x27 .f32) (y : S256x27.Idx) :
    ∃ pc ∈ ([⟨r0_0, p0⟩] : List (View.Piece (Elt F) S256x27 .f32)), y ∈ pc.1.set :=
  View.cover_of_tiled [⟨r0_0, p0⟩] S256x27.size (by rfl) y

/-- What the body of call 0 leaves in output window 2, from the blocks it reads. -/
def out0_2 (x0 : Vec F S256x27 .i32) : Vec F S1x1 .f32 :=
  View.canon [⟨r0_1, k0_pay3 (View.ld x0 r0_0)⟩]

/-- The store into output window 2 of call 0 covers the window. -/
theorem cover0_2 (p0 : Vec F S1x1 .f32) (y : S1x1.Idx) :
    ∃ pc ∈ ([⟨r0_1, p0⟩] : List (View.Piece (Elt F) S1x1 .f32)), y ∈ pc.1.set :=
  View.cover_of_tiled [⟨r0_1, p0⟩] S1x1.size (by rfl) y

set_option maxHeartbeats 1000000 in
/-- The body of call 0, on windows that hold the given blocks, ends with the outputs at the stated values and the inputs unchanged. -/
theorem sound_kernel0 (c : Dev nD) (E : Set ℕ) (arg0 : Memref sig .tc .vmem S256x27 .i32) (harg0 : arg0.IsWhole) (arg1 : Memref sig .tc .vmem S256x27 .f32) (harg1 : arg1.IsWhole) (arg2 : Memref sig .tc .vmem S1x1 .f32) (harg2 : arg2.IsWhole)
    (x0 : Vec F S256x27 .i32) (K : PUnit → sProp 𝕄) :
    iprop(owns (c : Thread nD τ) arg0 fullShare x0 ∗ (∃ d, owns (c : Thread nD τ) arg1 fullShare d) ∗ (∃ d, owns (c : Thread nD τ) arg2 fullShare d)
        ∗ (iprop(owns (c : Thread nD τ) arg0 fullShare x0 ∗ owns (c : Thread nD τ) arg1 fullShare (out0_1 x0) ∗ owns (c : Thread nD τ) arg2 fullShare (out0_2 x0)) -∗ K ⟨⟩))
      ⊢ wp frame (wpE (defs₀ (F := F)) Variants.none c none) E (cc0__prep_kernel arg0 harg0 arg1 harg1 arg2 harg2) K := by
  simp only [cc0__prep_kernel_eq_skeleton]; unfold cc0__prep_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-- The proof data of call 0: the arrays as the call finds them, each input left at its block, each output at the stated value. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The arrays of call 0 are those it finds at entry. -/
theorem A_eq0 (c : Dev nD) (w : Fin cfg0.W) : (dat0 V c).A w = V c (Pipeline.arrRef spec0 w) := by
  dsimp only [dat0]

/-- What the body of call 0 leaves in window 0. -/
theorem after0_0 (c : Dev nD) (t : Fin cfg0.N) : (dat0 V c).after 0 t = iblk0 V c 0 t := by dsimp only [dat0]
/-- What the body of call 0 leaves in window 1. -/
theorem after0_1 (c : Dev nD) (t : Fin cfg0.N) : (dat0 V c).after 1 t = out0_1 (iblk0 V c 0 t) := by dsimp only [dat0]
/-- What the body of call 0 leaves in window 2. -/
theorem after0_2 (c : Dev nD) (t : Fin cfg0.N) : (dat0 V c).after 2 t = out0_2 (iblk0 V c 0 t) := by dsimp only [dat0]

/-- What the body of call 0 finds in input window 0. -/
theorem before0_0 (c : Dev nD) (t : Fin cfg0.N) (d) : (dat0 V c).before 0 t d = iblk0 V c 0 t :=
  before0_0_of V (dat0 V c) (A_eq0 V c 0) (after0_0 V c) t d

/-- What the body of call 0 is given at a grid point. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body of call 0 gives back at a grid point. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At every grid point the body of call 0 takes the first to the second. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body that call 0 runs at a grid point. -/
theorem defs₀_row0 (t : Fin cfg0.N) :
    defs₀ (F := F) .tc cfg0.body (cfg0.bodyArgs t (cfg0.slots t)) = bodyAt0 t := by
  unfold defs₀; rw [Defs.onTc_tc]

/-- What the pipeline asks of the body of call 0 holds at every grid point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Fr

end
-- ==== Proof.Ideal.Norm.lean ====
/- Call 1 of the kernel (normalising the rows): what its body leaves, and that the pipeline may run it. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What window `w` of call 1 reads at grid point `t`: its block of the array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Before the body runs, input window 0 of call 1 holds its block, for any proof data that leave it there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- A rectangle that the body of call 1 loads from or stores into. -/
abbrev r1_0 : Rect S32x27x1024 := Rect.unit (s := S32x27x1024) ![0, 0, 0] S32x27x1024.size inb_S32x27x1024_S32x27x1024_0_0_0
/-- A rectangle that the body of call 1 loads from or stores into. -/
abbrev r1_1 : Rect S864x1024 := Rect.unit (s := S864x1024) ![0, 0] S864x1024.size inb_S864x1024_S864x1024_0_0

/-- What the body of call 1 leaves in output window 1, from the blocks it reads. -/
def out1_1 (x0 : Vec F S32x27x1024 .f32) : Vec F S864x1024 .bf16 :=
  View.canon [⟨r1_1, k1_pay1 (View.ld x0 r1_0)⟩]

/-- The store into output window 1 of call 1 covers the window. -/
theorem cover1_1 (p0 : Vec F S864x1024 .bf16) (y : S864x1024.Idx) :
    ∃ pc ∈ ([⟨r1_1, p0⟩] : List (View.Piece (Elt F) S864x1024 .bf16)), y ∈ pc.1.set :=
  View.cover_of_tiled [⟨r1_1, p0⟩] S864x1024.size (by rfl) y

set_option maxHeartbeats 1000000 in
/-- The body of call 1, on windows that hold the given blocks, ends with the outputs at the stated values and the inputs unchanged. -/
theorem sound_kernel1 (c : Dev nD) (E : Set ℕ) (i : grid1.Coords) (arg1 : Memref sig .tc .vmem S32x27x1024 .f32) (harg1 : arg1.IsWhole) (arg2 : Memref sig .tc .vmem S864x1024 .bf16) (harg2 : arg2.IsWhole)
    (x0 : Vec F S32x27x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__norm_kernel i arg1 harg1 arg2 harg2) K := by
  simp only [cc1__norm_kernel_eq_skeleton]; unfold cc1__norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of call 1: the arrays as the call finds them, each input left at its block, each output at the stated value. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The arrays of call 1 are those it finds at entry. -/
theorem A_eq1 (c : Dev nD) (w : Fin cfg1.W) : (dat1 V c).A w = V c (Pipeline.arrRef spec1 w) := by
  dsimp only [dat1]

/-- What the body of call 1 leaves in window 0. -/
theorem after1_0 (c : Dev nD) (t : Fin cfg1.N) : (dat1 V c).after 0 t = iblk1 V c 0 t := by dsimp only [dat1]
/-- What the body of call 1 leaves in window 1. -/
theorem after1_1 (c : Dev nD) (t : Fin cfg1.N) : (dat1 V c).after 1 t = out1_1 (iblk1 V c 0 t) := by dsimp only [dat1]

/-- What the body of call 1 finds in input window 0. -/
theorem before1_0 (c : Dev nD) (t : Fin cfg1.N) (d) : (dat1 V c).before 0 t d = iblk1 V c 0 t :=
  before1_0_of V (dat1 V c) (A_eq1 V c 0) (after1_0 V c) t d

/-- What the body of call 1 is given at a grid point. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- What the body of call 1 gives back at a grid point. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- At every grid point the body of call 1 takes the first to the second. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ (grid1.coords t) _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body that call 1 runs at a grid point. -/
theorem defs₀_row1 (t : Fin cfg1.N) :
    defs₀ (F := F) .tc cfg1.body (cfg1.bodyArgs t (cfg1.slots t)) = bodyAt1 t := by
  unfold defs₀; rw [Defs.onTc_tc]

/-- What the pipeline asks of the body of call 1 holds at every grid point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Fr

end
-- ==== Proof.Ideal.Main.lean ====
/- Call 2 of the kernel (the products): what its body leaves, point by point, and that the pipeline may run it. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What window `w` of call 2 reads at grid point `t`: its block of the array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole rectangle of an accumulator. -/
abbrev rAcc : Rect S3456x128 := Rect.unit (s := S3456x128) ![0, 0] S3456x128.size inb_S3456x128_S3456x128_0_0
/-- The whole block of rows. -/
abbrev rRow : Rect S3456x1024 := Rect.unit (s := S3456x1024) ![0, 0] S3456x1024.size inb_S3456x1024_S3456x1024_0_0
/-- The whole block of columns. -/
abbrev rCol : Rect S256x1024 := Rect.unit (s := S256x1024) ![0, 0] S256x1024.size inb_S256x1024_S256x1024_0_0
/-- The whole block of the rows' labels. -/
abbrev rQr : Rect S3456x256 := Rect.unit (s := S3456x256) ![0, 0] S3456x256.size inb_S3456x256_S3456x256_0_0
/-- The first column of the rows' labels. -/
abbrev rQ1 : Rect S3456x256 := Rect.unit (s := S3456x256) ![0, 0] S3456x1.size inb_S3456x256_S3456x1_0_0
/-- The whole block of the columns' labels. -/
abbrev rQc : Rect S1x256 := Rect.unit (s := S1x256) ![0, 0] S1x256.size inb_S1x256_S1x256_0_0
/-- The whole output block. -/
abbrev rOut : Rect S1x1x128 := Rect.unit (s := S1x1x128) ![0, 0, 0] S1x1x128.size inb_S1x1x128_S1x1x128_0_0_0

/-- The accumulator of the positive pairs after a point that finds it at `s`. -/
def stepP (x0 : Vec F S3456x1024 .bf16) (x1 : Vec F S256x1024 .bf16) (x2 : Vec F S3456x256 .f32) (x3 : Vec F S1x256 .f32) (s : Vec F S3456x128 .f32) : Vec F S3456x128 .f32 :=
  k2_pay1 (k2_pay10 (View.ld x1 rCol) (View.ld x0 rRow) (View.ld x2 rQr) (View.ld x3 rQc) (View.ld s rAcc))

/-- The accumulator of the negative pairs after a point that finds it at `s`. -/
def stepN (x0 : Vec F S3456x1024 .bf16) (x1 : Vec F S256x1024 .bf16) (x2 : Vec F S3456x256 .f32) (x3 : Vec F S1x256 .f32) (s : Vec F S3456x128 .f32) : Vec F S3456x128 .f32 :=
  k2_pay2 (k2_pay9 (View.ld x1 rCol) (View.ld x0 rRow) (View.ld x2 rQr) (View.ld x3 rQc)) (View.ld s rAcc)

/-- What the last point of a row block writes, from the two accumulators and the rows' labels. -/
def outV (sp sn : Vec F S3456x128 .f32) (x2 : Vec F S3456x256 .f32) : Vec F S1x1x128 .f32 :=
  k2_pay3 (View.ld sp rAcc) (View.ld sn rAcc) (View.ld x2 rQ1)

/-- The step from the first point of a row block is taken when the column index is zero. -/
abbrev cond2_0 (i : grid2.Coords) : Prop := (Scalar.cmpi .ne (Scalar.extui (Scalar.cmpi .eq (BitVec.ofNat 32 (i 1).val) 0#32)) 0#32) = 1#1
/-- That is so at the points that are multiples of 27. -/
theorem hcond2_0 : ∀ t : Fin cfg2.N, cond2_0 (grid2.coords t) ↔ t.val % 27 = 0 :=
  (fun t => by
    have ht : t.val < 54 := Nat.lt_of_lt_of_eq t.isLt N_2
    have e0 : (grid2.coords t 0).val = t.val / 27 % 2 := Pipeline.Grid.coords_val t 0 (by decide) rfl
    have e1 : (grid2.coords t 1).val = t.val / 1 % 27 := Pipeline.Grid.coords_val t 1 (by decide) rfl
    simp only [cond2_0, e0, e1]
    word_cmp
   : ∀ t : Fin grid2.N, cond2_0 (grid2.coords t) ↔ t.val % 27 = 0)

/-- The output is written when the column index is the last. -/
abbrev cond2_1 (i : grid2.Coords) : Prop := k2_cond2 i = 1#1
/-- That is so at the points that leave 26 modulo 27. -/
theorem hcond2_1 : ∀ t : Fin cfg2.N, cond2_1 (grid2.coords t) ↔ t.val % 27 = 26 :=
  (fun t => by
    have ht : t.val < 54 := Nat.lt_of_lt_of_eq t.isLt N_2
    have e0 : (grid2.coords t 0).val = t.val / 27 % 2 := Pipeline.Grid.coords_val t 0 (by decide) rfl
    have e1 : (grid2.coords t 1).val = t.val / 1 % 27 := Pipeline.Grid.coords_val t 1 (by decide) rfl
    simp only [cond2_1, k2_cond2, e0, e1]
    word_cmp
   : ∀ t : Fin grid2.N, cond2_1 (grid2.coords t) ↔ t.val % 27 = 26)

/-- The whole rectangle of an accumulator takes every index to itself. -/
theorem rAcc_idx (y : S3456x128.Idx) : rAcc.idx y = y := by
  funext a; apply Fin.ext; fin_cases a <;> simp [LoadRect.idx_apply]

/-- The whole rectangle of the output block takes every index to itself. -/
theorem rOut_idx (y : S1x1x128.Idx) : rOut.idx y = y := by
  funext a; apply Fin.ext; fin_cases a <;> simp [LoadRect.idx_apply]

/-- A load of the whole accumulator reads it. -/
theorem ld_acc (s : Vec F S3456x128 .f32) : View.ld s rAcc = s := funext fun y => congrArg s (rAcc_idx y)

/-- An accumulator whose last store was of the whole reads as what was stored. -/
theorem read_acc (v : View sig .tc .vmem S3456x128 .f32) (f : v.ty.Contents (Elt F)) (p : Vec F S3456x128 .f32)
    (l : List (View.Piece (Elt F) S3456x128 .f32)) : v.read (Elt F) (v.writes (Elt F) f (⟨rAcc, p⟩ :: l)) = p := by
  funext y
  rw [View.read_writes_apply_eq_canon v f y (⟨rAcc, p⟩ :: l) ⟨_, List.mem_cons_self, by
    rw [← rAcc_idx y]; exact rAcc.idx_mem y⟩]
  conv_lhs => rw [← rAcc_idx y]
  exact View.canon_cons_emb rAcc p l y

/-- The output block, stored whole, reads as what was stored. -/
theorem read_out (v : View sig .tc .vmem S1x1x128 .f32) (f : v.ty.Contents (Elt F)) (p : Vec F S1x1x128 .f32)
    (l : List (View.Piece (Elt F) S1x1x128 .f32)) : v.read (Elt F) (v.writes (Elt F) f (⟨rOut, p⟩ :: l)) = p := by
  funext y
  rw [View.read_writes_apply_eq_canon v f y (⟨rOut, p⟩ :: l) ⟨_, List.mem_cons_self, by
    rw [← rOut_idx y]; exact rOut.idx_mem y⟩]
  conv_lhs => rw [← rOut_idx y]
  exact View.canon_cons_emb rOut p l y

set_option maxHeartbeats 4000000 in
/-- The body at the first point of a row block: the accumulators restart from zero and take the first step. -/
theorem body_first (c : Dev nD) (i : grid2.Coords) (arg2 : Memref sig .tc .vmem S3456x1024 .bf16) (harg2 : arg2.IsWhole) (arg3 : Memref sig .tc .vmem S256x1024 .bf16) (harg3 : arg3.IsWhole) (arg4 : Memref sig .tc .vmem S3456x256 .f32) (harg4 : arg4.IsWhole) (arg5 : Memref sig .tc .vmem S1x256 .f32) (harg5 : arg5.IsWhole) (arg6 : Memref sig .tc .vmem S1x1x128 .f32) (harg6 : arg6.IsWhole) (arg7 : Memref sig .tc .vmem S3456x128 .f32) (harg7 : arg7.IsWhole) (arg8 : Memref sig .tc .vmem S3456x128 .f32) (harg8 : arg8.IsWhole) (hc0 : cond2_0 i) (hc1 : ¬cond2_1 i)
    (x0 : Vec F S3456x1024 .bf16) (x1 : Vec F S256x1024 .bf16) (x2 : Vec F S3456x256 .f32) (x3 : Vec F S1x256 .f32) (x4 : Vec F S1x1x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
          ∗ owns (c : Thread nD τ) arg7 fullShare (stepP x0 x1 x2 x3 k2_pay4) ∗ owns (c : Thread nD τ) arg8 fullShare (stepN x0 x1 x2 x3 k2_pay5)) -∗ K ⟨⟩))
      ⊢ wp frame (wpE (defs₀ (F := F)) Variants.none c none) E (cc2__main_kernel i arg2 harg2 arg3 harg3 arg4 harg4 arg5 harg5 arg6 harg6 arg7 harg7 arg8 harg8) K := by
  simp only [cc2__main_kernel_eq_skeleton]; unfold cc2__main_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  subst hf0 hf1 hf2 hf3 hf4
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro
    rfl
  isplitl [HS0]
  · iexists _; isplitr
    swap; · iexact HS0
    ipureintro
    rw [read_acc]; unfold body_first.sl.r_1 body_first.sl.v30 body_first.sl.HS0_1 stepP; rw [ld_acc, View.readCov_cons_toLoadRect]; rfl
  iexists _; isplitr
  swap; · iexact HS1
  ipureintro
  rw [read_acc]; unfold stepN body_first.sl.v38 body_first.sl.HS1_1; rw [ld_acc, View.readCov_cons_toLoadRect]; rfl

set_option maxHeartbeats 4000000 in
/-- The body at a point inside a row block: each accumulator takes a step. -/
theorem body_mid (c : Dev nD) (i : grid2.Coords) (arg2 : Memref sig .tc .vmem S3456x1024 .bf16) (harg2 : arg2.IsWhole) (arg3 : Memref sig .tc .vmem S256x1024 .bf16) (harg3 : arg3.IsWhole) (arg4 : Memref sig .tc .vmem S3456x256 .f32) (harg4 : arg4.IsWhole) (arg5 : Memref sig .tc .vmem S1x256 .f32) (harg5 : arg5.IsWhole) (arg6 : Memref sig .tc .vmem S1x1x128 .f32) (harg6 : arg6.IsWhole) (arg7 : Memref sig .tc .vmem S3456x128 .f32) (harg7 : arg7.IsWhole) (arg8 : Memref sig .tc .vmem S3456x128 .f32) (harg8 : arg8.IsWhole) (hc0 : ¬cond2_0 i) (hc1 : ¬cond2_1 i)
    (x0 : Vec F S3456x1024 .bf16) (x1 : Vec F S256x1024 .bf16) (x2 : Vec F S3456x256 .f32) (x3 : Vec F S1x256 .f32) (x4 : Vec F S1x1x128 .f32) (s7 s8 : Vec F S3456x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare s7 ∗ owns (c : Thread nD τ) arg8 fullShare s8
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
          ∗ owns (c : Thread nD τ) arg7 fullShare (stepP x0 x1 x2 x3 s7) ∗ owns (c : Thread nD τ) arg8 fullShare (stepN x0 x1 x2 x3 s8)) -∗ K ⟨⟩))
      ⊢ wp frame (wpE (defs₀ (F := F)) Variants.none c none) E (cc2__main_kernel i arg2 harg2 arg3 harg3 arg4 harg4 arg5 harg5 arg6 harg6 arg7 harg7 arg8 harg8) K := by
  simp only [cc2__main_kernel_eq_skeleton]; unfold cc2__main_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  subst hf0 hf1 hf2 hf3 hf4 hfs0 hfs1
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro
    rfl
  isplitl [HS0]
  · iexists _; isplitr
    swap; · iexact HS0
    ipureintro
    rw [read_acc]; rfl
  iexists _; isplitr
  swap; · iexact HS1
  ipureintro
  rw [read_acc]; rfl

set_option maxHeartbeats 4000000 in
/-- The body at the last point of a row block: each accumulator takes a step, and the output is written from the two. -/
theorem body_last (c : Dev nD) (i : grid2.Coords) (arg2 : Memref sig .tc .vmem S3456x1024 .bf16) (harg2 : arg2.IsWhole) (arg3 : Memref sig .tc .vmem S256x1024 .bf16) (harg3 : arg3.IsWhole) (arg4 : Memref sig .tc .vmem S3456x256 .f32) (harg4 : arg4.IsWhole) (arg5 : Memref sig .tc .vmem S1x256 .f32) (harg5 : arg5.IsWhole) (arg6 : Memref sig .tc .vmem S1x1x128 .f32) (harg6 : arg6.IsWhole) (arg7 : Memref sig .tc .vmem S3456x128 .f32) (harg7 : arg7.IsWhole) (arg8 : Memref sig .tc .vmem S3456x128 .f32) (harg8 : arg8.IsWhole) (hc0 : ¬cond2_0 i) (hc1 : cond2_1 i)
    (x0 : Vec F S3456x1024 .bf16) (x1 : Vec F S256x1024 .bf16) (x2 : Vec F S3456x256 .f32) (x3 : Vec F S1x256 .f32) (s7 s8 : Vec F S3456x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare s7 ∗ owns (c : Thread nD τ) arg8 fullShare s8
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outV (stepP x0 x1 x2 x3 s7) (stepN x0 x1 x2 x3 s8) x2)
          ∗ owns (c : Thread nD τ) arg7 fullShare (stepP x0 x1 x2 x3 s7) ∗ owns (c : Thread nD τ) arg8 fullShare (stepN x0 x1 x2 x3 s8)) -∗ K ⟨⟩))
      ⊢ wp frame (wpE (defs₀ (F := F)) Variants.none c none) E (cc2__main_kernel i arg2 harg2 arg3 harg3 arg4 harg4 arg5 harg5 arg6 harg6 arg7 harg7 arg8 harg8) K := by
  simp only [cc2__main_kernel_eq_skeleton]; unfold cc2__main_kernel_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  subst hf0 hf1 hf2 hf3 hfs0 hfs1
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro
    rw [read_out]
    unfold outV body_last.sl.v49 body_last.sl.v52 body_last.sl.HS0_1 body_last.sl.HS1_1
    rw [ld_acc, ld_acc, View.readCov_cons_toLoadRect, View.readCov_cons_toLoadRect]; rfl
  isplitl [HS0]
  · iexists _; isplitr
    swap; · iexact HS0
    ipureintro
    unfold body_last.sl.HS0_1; rw [read_acc]; rfl
  iexists _; isplitr
  swap; · iexact HS1
  ipureintro
  unfold body_last.sl.HS1_1; rw [read_acc]; rfl

/-- Window 0's buffer holds its block at every point, for proof data whose array is `V`'s and whose body leaves the block there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1's buffer holds its block at every point, for proof data whose array is `V`'s and whose body leaves the block there. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2's buffer holds its block at every point, for proof data whose array is `V`'s and whose body leaves the block there. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Window 3's buffer holds its block at every point, for proof data whose array is `V`'s and whose body leaves the block there. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The two accumulators after a point that finds them at `s`. -/
def step2 (c : Dev nD) (t : Fin cfg2.N) (s : Vec F S3456x128 .f32 × Vec F S3456x128 .f32) : Vec F S3456x128 .f32 × Vec F S3456x128 .f32 :=
  (stepP (iblk2 V c 0 t) (iblk2 V c 1 t) (iblk2 V c 2 t) (iblk2 V c 3 t) s.1,
   stepN (iblk2 V c 0 t) (iblk2 V c 1 t) (iblk2 V c 2 t) (iblk2 V c 3 t) s.2)

/-- Both accumulators at zero. -/
def zero2 : Vec F S3456x128 .f32 × Vec F S3456x128 .f32 := (k2_pay4, k2_pay5)

/-- The two accumulators after point `n`: a row block's first point starts them from zero, every other takes them over. -/
def acc2 (c : Dev nD) : (n : ℕ) → n < cfg2.N → Vec F S3456x128 .f32 × Vec F S3456x128 .f32
  | 0, h => step2 V c ⟨0, h⟩ zero2
  | n + 1, h => step2 V c ⟨n + 1, h⟩ (if (n + 1) % 27 = 0 then zero2 else acc2 c n (Nat.lt_of_succ_lt h))

/-- At a row block's first point they are a step from zero. -/
theorem acc2_first (c : Dev nD) (t : Fin cfg2.N) (h : t.val % 27 = 0) : acc2 V c t.val t.isLt = step2 V c t zero2 := by
  obtain ⟨n, hn⟩ := t
  cases n with
  | zero => rfl
  | succ n => simp only [acc2]; rw [if_pos h]

/-- At every other point they are a step from the point before. -/
theorem acc2_next (c : Dev nD) (t : Fin cfg2.N) (h : t.val % 27 ≠ 0) :
    acc2 V c t.val t.isLt = step2 V c t (acc2 V c (t.val - 1) (lt_of_le_of_lt (Nat.sub_le _ _) t.isLt)) := by
  obtain ⟨n, hn⟩ := t
  cases n with
  | zero => exact absurd rfl h
  | succ n => simp only [acc2]; rw [if_neg h]; rfl

/-- The accumulators, as the body is handed them. -/
abbrev accM0 : Memref sig .tc .vmem S3456x128 .f32 := Memref.whole cc2_scratch0
/-- The second of them. -/
abbrev accM1 : Memref sig .tc .vmem S3456x128 .f32 := Memref.whole cc2_scratch1

/-- What call 2 does not touch between its points: the staging buffers of the other calls and the generator. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ r, prngReg c r))

/-- What the launch hands call 2 is the two accumulators at anything and the rest, -/
theorem open2 (c : Dev nD) : (Pipeline.ΦA spec2 c : sProp 𝕄) ⊢ iprop((∃ d, owns (c : Thread nD τ) accM0 fullShare d) ∗ (∃ d, owns (c : Thread nD τ) accM1 fullShare d) ∗ rest2 (F := F) c) := by
  unfold Pipeline.ΦA rest2; rw [scopedRest2_eq]; simp only [accM0, accM1, owns_whole]
  iintro ⟨⟨A0, A1, A2, A3, A4, A5, A6, S0, S1, A7, A8, A9⟩, Hg⟩
  isplitl [S0]; · iexact S0
  isplitl [S1]; · iexact S1
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  iexact Hg

/-- and the other way round. -/
theorem close2 (c : Dev nD) : iprop((∃ d, owns (c : Thread nD τ) accM0 fullShare d) ∗ (∃ d, owns (c : Thread nD τ) accM1 fullShare d) ∗ rest2 (F := F) c) ⊢ (Pipeline.ΦA spec2 c : sProp 𝕄) := by
  unfold Pipeline.ΦA rest2; rw [scopedRest2_eq]; simp only [accM0, accM1, owns_whole]
  iintro ⟨S0, S1, A0, A1, A2, A3, A4, A5, A6, A7, A8, A9, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [S0]; · iexact S0
    isplitl [S1]; · iexact S1
    isplitl [A7]; · iexact A7
    isplitl [A8]; · iexact A8
    iexact A9
  iexact Hg

/-- What holds between the points: at the start what the launch hands over, after a point its accumulators and the rest. -/
def Phi2 (c : Dev nD) : (n : ℕ) → n ≤ cfg2.N → sProp 𝕄
  | 0, _ => Pipeline.ΦA spec2 c
  | n + 1, hn => iprop(owns (c : Thread nD τ) accM0 fullShare (acc2 V c n hn).1 ∗ owns (c : Thread nD τ) accM1 fullShare (acc2 V c n hn).2 ∗ rest2 (F := F) c)

/-- Before a point that is not the first: the accumulators as the point before left them. -/
theorem Phi2_pos (c : Dev nD) (n : ℕ) (h : n ≤ cfg2.N) (hz : n ≠ 0) :
    Phi2 V c n h = iprop(owns (c : Thread nD τ) accM0 fullShare (acc2 V c (n - 1) (by omega)).1 ∗ owns (c : Thread nD τ) accM1 fullShare (acc2 V c (n - 1) (by omega)).2 ∗ rest2 (F := F) c) := by
  cases n with
  | zero => exact absurd rfl hz
  | succ n => rfl

/-- At any time the two accumulators hold something. -/
theorem Phi2_any (c : Dev nD) (n : ℕ) (h : n ≤ cfg2.N) :
    Phi2 V c n h ⊢ iprop((∃ d, owns (c : Thread nD τ) accM0 fullShare d) ∗ (∃ d, owns (c : Thread nD τ) accM1 fullShare d) ∗ rest2 (F := F) c) := by
  cases n with
  | zero => exact open2 c
  | succ n =>
    unfold Phi2
    iintro ⟨S0, S1, R⟩
    isplitl [S0]; · iexists _; iexact S0
    isplitl [S1]; · iexists _; iexact S1
    iexact R

/-- The proof data of call 2: its inputs keep their blocks, and the output block is written from the point's accumulators. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outV (acc2 V c t.val t.isLt).1 (acc2 V c t.val t.isLt).2 (iblk2 V c 2 t)
  Φ t := Phi2 V c t.val (Nat.le_of_lt_succ t.isLt)
  q w := Pipeline.shareOf spec2 w
  owed _ := 0

/-- Its arrays are the call's entry contents. -/
theorem A_eq2 (c : Dev nD) (w : Fin cfg2.W) : (dat2 V c).A w = V c (Pipeline.arrRef spec2 w) := by
  dsimp only [dat2]

/-- What holds at a point's start. -/
theorem Phi2_castSucc (c : Dev nD) (t : Fin cfg2.N) : (dat2 V c).Φ t.castSucc = Phi2 V c t.val (Nat.le_of_lt t.isLt) := by
  dsimp only [dat2]; exact Pipeline.Dat.Φ_castSucc (Phi2 V c) t

/-- Input window 0 is left at its block. -/
theorem after2_0 (c : Dev nD) (t : Fin cfg2.N) : (dat2 V c).after 0 t = iblk2 V c 0 t := by dsimp only [dat2]
/-- Input window 1 is left at its block. -/
theorem after2_1 (c : Dev nD) (t : Fin cfg2.N) : (dat2 V c).after 1 t = iblk2 V c 1 t := by dsimp only [dat2]
/-- Input window 2 is left at its block. -/
theorem after2_2 (c : Dev nD) (t : Fin cfg2.N) : (dat2 V c).after 2 t = iblk2 V c 2 t := by dsimp only [dat2]
/-- Input window 3 is left at its block. -/
theorem after2_3 (c : Dev nD) (t : Fin cfg2.N) : (dat2 V c).after 3 t = iblk2 V c 3 t := by dsimp only [dat2]
/-- The output window is left at what the point's accumulators give. -/
theorem after2_4 (c : Dev nD) (t : Fin cfg2.N) : (dat2 V c).after 4 t = outV (acc2 V c t.val t.isLt).1 (acc2 V c t.val t.isLt).2 (iblk2 V c 2 t) := by dsimp only [dat2]
/-- Input window 0 is found at its block. -/
theorem before2_0 (c : Dev nD) (t : Fin cfg2.N) (d) : (dat2 V c).before 0 t d = iblk2 V c 0 t :=
  before2_0_of V (dat2 V c) (A_eq2 V c 0) (after2_0 V c) t d
/-- Input window 1 is found at its block. -/
theorem before2_1 (c : Dev nD) (t : Fin cfg2.N) (d) : (dat2 V c).before 1 t d = iblk2 V c 1 t :=
  before2_1_of V (dat2 V c) (A_eq2 V c 1) (after2_1 V c) t d
/-- Input window 2 is found at its block. -/
theorem before2_2 (c : Dev nD) (t : Fin cfg2.N) (d) : (dat2 V c).before 2 t d = iblk2 V c 2 t :=
  before2_2_of V (dat2 V c) (A_eq2 V c 2) (after2_2 V c) t d
/-- Input window 3 is found at its block. -/
theorem before2_3 (c : Dev nD) (t : Fin cfg2.N) (d) : (dat2 V c).before 3 t d = iblk2 V c 3 t :=
  before2_3_of V (dat2 V c) (A_eq2 V c 3) (after2_3 V c) t d
/-- The body's precondition at a point, window by window. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- The body's postcondition at a point, window by window. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t ∗ (dat2 V c).leavesExact 4 t)

/-- An input window is left at its block. -/
theorem leaves2_in (c : Dev nD) (t : Fin cfg2.N) (w : Fin cfg2.W) (hw : cfg2.idle w (grid2.coords t) = false) :
    (dat2 V c).leavesExact w t = owns (c : Thread nD τ) ((cfg2.win w).stage (cfg2.slots t w)) fullShare ((dat2 V c).after w t) := by
  unfold Dat.leavesExact; rw [hw]

/-- The output is idle off the last point of a row block, -/
theorem idle2 : ∀ t : Fin cfg2.N, ¬cond2_1 (grid2.coords t) → cfg2.idle 4 (grid2.coords t) = true := by decide +kernel
/-- it is not written back there, -/
theorem noflush2 : ∀ t : Fin cfg2.N, ¬cond2_1 (grid2.coords t) → (cfg2.win 4).flush t = false := by decide +kernel
/-- and it is live at that point. -/
theorem live2 : ∀ t : Fin cfg2.N, cond2_1 (grid2.coords t) → cfg2.idle 4 (grid2.coords t) = false := by decide +kernel

set_option maxHeartbeats 4800000 in
/-- The body at any point meets its postcondition: a row block's first point, a point inside and the last, in turn. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl,
    show (dat2 V c).Φ t.succ = iprop(owns (c : Thread nD τ) accM0 fullShare (acc2 V c t.val t.isLt).1 ∗ owns (c : Thread nD τ) accM1 fullShare (acc2 V c t.val t.isLt).2 ∗ rest2 (F := F) c) from rfl,
    Phi2_castSucc, leaves2_in V c t 0 rfl, leaves2_in V c t 1 rfl, leaves2_in V c t 2 rfl, leaves2_in V c t 3 rfl,
    after2_0, after2_1, after2_2, after2_3]
  by_cases h1 : t.val % 27 = 26
  · have h0 : t.val % 27 ≠ 0 := by omega
    rw [leaves2_in V c t 4 (live2 t ((hcond2_1 t).mpr h1)), after2_4, Phi2_pos V c _ _ (by omega), acc2_next V c t h0]
    iintro ⟨⟨S0, S1, R⟩, Ho, ⟨%d0, H0⟩, ⟨%d1, H1⟩, ⟨%d2, H2⟩, ⟨%d3, H3⟩, ⟨%d4, H4⟩⟩
    iapply (body_last c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) _ _ Set.univ _)
    isplitl [H0]; · iexact H0
    isplitl [H1]; · iexact H1
    isplitl [H2]; · iexact H2
    isplitl [H3]; · iexact H3
    isplitl [H4]; · iexists _; iexact H4
    isplitl [S0]; · iexact S0
    isplitl [S1]; · iexact S1
    iintro ⟨H0, H1, H2, H3, H4, S0, S1⟩
    isplitl [S0 S1 R]
    · isplitl [S0]; · iexact S0
      isplitl [S1]; · iexact S1
      iexact R
    isplitl [Ho]; · iexact Ho
    isplitl [H0]; · iexact H0
    isplitl [H1]; · iexact H1
    isplitl [H2]; · iexact H2
    isplitl [H3]; · iexact H3
    iexact H4
  have hl : ¬cond2_1 (grid2.coords t) := fun h => h1 ((hcond2_1 t).mp h)
  rw [Dat.leavesExact_idle (dat2 V c) 4 t (idle2 t hl) (noflush2 t hl)]
  by_cases h0 : t.val % 27 = 0
  · rw [acc2_first V c t h0]
    iintro ⟨HP, Ho, ⟨%d0, H0⟩, ⟨%d1, H1⟩, ⟨%d2, H2⟩, ⟨%d3, H3⟩, ⟨%d4, H4⟩⟩
    ihave HQ := (Phi2_any V c t.val (Nat.le_of_lt t.isLt)) $$ HP
    icases HQ with ⟨S0, S1, R⟩
    iapply (body_first c (grid2.coords t) _ _ _ _ _ _ _ _ _ _ _ _ _ _ ((hcond2_0 t).mpr h0) hl (iblk2 V c 0 t) (iblk2 V c 1 t) (iblk2 V c 2 t) (iblk2 V c 3 t) _ Set.univ _)
    isplitl [H0]; · iexact H0
    isplitl [H1]; · iexact H1
    isplitl [H2]; · iexact H2
    isplitl [H3]; · iexact H3
    isplitl [H4]; · iexact H4
    isplitl [S0]; · iexact S0
    isplitl [S1]; · iexact S1
    iintro ⟨H0, H1, H2, H3, H4, S0, S1⟩
    isplitl [S0 S1 R]
    · isplitl [S0]; · iexact S0
      isplitl [S1]; · iexact S1
      iexact R
    isplitl [Ho]; · iexact Ho
    isplitl [H0]; · iexact H0
    isplitl [H1]; · iexact H1
    isplitl [H2]; · iexact H2
    isplitl [H3]; · iexact H3
    iexists _; iexact H4
  rw [Phi2_pos V c _ _ (by omega), acc2_next V c t h0]
  iintro ⟨⟨S0, S1, R⟩, Ho, ⟨%d0, H0⟩, ⟨%d1, H1⟩, ⟨%d2, H2⟩, ⟨%d3, H3⟩, ⟨%d4, H4⟩⟩
  iapply (body_mid c (grid2.coords t) _ _ _ _ _ _ _ _ _ _ _ _ _ _ (fun h => h0 ((hcond2_0 t).mp h)) hl (iblk2 V c 0 t) (iblk2 V c 1 t) (iblk2 V c 2 t) (iblk2 V c 3 t) _ _ _ Set.univ _)
  isplitl [H0]; · iexact H0
  isplitl [H1]; · iexact H1
  isplitl [H2]; · iexact H2
  isplitl [H3]; · iexact H3
  isplitl [H4]; · iexact H4
  isplitl [S0]; · iexact S0
  isplitl [S1]; · iexact S1
  iintro ⟨H0, H1, H2, H3, H4, S0, S1⟩
  isplitl [S0 S1 R]
  · isplitl [S0]; · iexact S0
    isplitl [S1]; · iexact S1
    iexact R
  isplitl [Ho]; · iexact Ho
  isplitl [H0]; · iexact H0
  isplitl [H1]; · iexact H1
  isplitl [H2]; · iexact H2
  isplitl [H3]; · iexact H3
  iexists _; iexact H4

/-- The body table's row at a point's slots is the body at that point. -/
theorem defs₀_row2 (t : Fin cfg2.N) :
    defs₀ (F := F) .tc cfg2.body (cfg2.bodyArgs t (cfg2.slots t)) = bodyAt2 t := by
  unfold defs₀; rw [Defs.onTc_tc]

/-- The obligation on the body of call 2. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- After the last point what the launch handed over is given back. -/
theorem Phi2_out (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl]
  exact (Phi2_any V c _ _).trans (close2 c)

end Cert.KernelIdeal.Fr

end
-- ==== Proof.Ideal.Final.lean ====
/- Call 3 of the kernel (the mean): what its body leaves, and that the pipeline may run it. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What window `w` of call 3 reads at grid point `t`: its block of the array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Before the body runs, input window 0 of call 3 holds its block, for any proof data that leave it there. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Before the body runs, input window 1 of call 3 holds its block, for any proof data that leave it there. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- A rectangle that the body of call 3 loads from or stores into. -/
abbrev r3_0 : Rect S2x1x128 := Rect.unit (s := S2x1x128) ![0, 0, 0] S2x1x1.size inb_S2x1x128_S2x1x1_0_0_0
/-- A rectangle that the body of call 3 loads from or stores into. -/
abbrev r3_1 : Rect S1x1 := Rect.unit (s := S1x1) ![0, 0] S1x1.size inb_S1x1_S1x1_0_0

/-- What the body of call 3 leaves in output window 2, from the blocks it reads. -/
def out3_2 (x0 : Vec F S2x1x128 .f32) (x1 : Vec F S1x1 .f32) : Vec F S1x1 .f32 :=
  View.canon [⟨r3_1, k3_pay1 (View.ld x0 r3_0) (View.ld x1 r3_1)⟩]

/-- The store into output window 2 of call 3 covers the window. -/
theorem cover3_2 (p0 : Vec F S1x1 .f32) (y : S1x1.Idx) :
    ∃ pc ∈ ([⟨r3_1, p0⟩] : List (View.Piece (Elt F) S1x1 .f32)), y ∈ pc.1.set :=
  View.cover_of_tiled [⟨r3_1, p0⟩] S1x1.size (by rfl) y

set_option maxHeartbeats 1000000 in
/-- The body of call 3, on windows that hold the given blocks, ends with the outputs at the stated values and the inputs unchanged. -/
theorem sound_kernel3 (c : Dev nD) (E : Set ℕ) (arg0 : Memref sig .tc .vmem S2x1x128 .f32) (harg0 : arg0.IsWhole) (arg1 : Memref sig .tc .vmem S1x1 .f32) (harg1 : arg1.IsWhole) (arg2 : Memref sig .tc .vmem S1x1 .f32) (harg2 : arg2.IsWhole)
    (x0 : Vec F S2x1x128 .f32) (x1 : Vec F S1x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__final_kernel arg0 harg0 arg1 harg1 arg2 harg2) K := by
  simp only [cc3__final_kernel_eq_skeleton]; unfold cc3__final_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of call 3: the arrays as the call finds them, each input left at its block, each output at the stated value. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The arrays of call 3 are those it finds at entry. -/
theorem A_eq3 (c : Dev nD) (w : Fin cfg3.W) : (dat3 V c).A w = V c (Pipeline.arrRef spec3 w) := by
  dsimp only [dat3]

/-- What the body of call 3 leaves in window 0. -/
theorem after3_0 (c : Dev nD) (t : Fin cfg3.N) : (dat3 V c).after 0 t = iblk3 V c 0 t := by dsimp only [dat3]
/-- What the body of call 3 leaves in window 1. -/
theorem after3_1 (c : Dev nD) (t : Fin cfg3.N) : (dat3 V c).after 1 t = iblk3 V c 1 t := by dsimp only [dat3]
/-- What the body of call 3 leaves in window 2. -/
theorem after3_2 (c : Dev nD) (t : Fin cfg3.N) : (dat3 V c).after 2 t = out3_2 (iblk3 V c 0 t) (iblk3 V c 1 t) := by dsimp only [dat3]

/-- What the body of call 3 finds in input window 0. -/
theorem before3_0 (c : Dev nD) (t : Fin cfg3.N) (d) : (dat3 V c).before 0 t d = iblk3 V c 0 t :=
  before3_0_of V (dat3 V c) (A_eq3 V c 0) (after3_0 V c) t d
/-- What the body of call 3 finds in input window 1. -/
theorem before3_1 (c : Dev nD) (t : Fin cfg3.N) (d) : (dat3 V c).before 1 t d = iblk3 V c 1 t :=
  before3_1_of V (dat3 V c) (A_eq3 V c 1) (after3_1 V c) t d

/-- What the body of call 3 is given at a grid point. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- What the body of call 3 gives back at a grid point. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- At every grid point the body of call 3 takes the first to the second. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body that call 3 runs at a grid point. -/
theorem defs₀_row3 (t : Fin cfg3.N) :
    defs₀ (F := F) .tc cfg3.body (cfg3.bodyArgs t (cfg3.slots t)) = bodyAt3 t := by
  unfold defs₀; rw [Defs.onTc_tc]

/-- What the pipeline asks of the body of call 3 holds at every grid point. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Fr

end
-- ==== Proof.Ideal.Run.lean ====
/- The whole program: its four calls and the host operations between them, as segments, and what every run of it ends with. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.Prep
public import proofs.«01_k».proof.Proof.Ideal.Norm
public import proofs.«01_k».proof.Proof.Ideal.Main
public import proofs.«01_k».proof.Proof.Ideal.Final
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The argument arrays of the program. -/
abbrev argRefs : List (Ref sig .tc) := [main_arg0, main_arg1]

/-- The host operations after call 1 allocate nothing. -/
theorem hostOps1_fresh : (hostOps1 : List (HloOp τ sig (Elt F))).Forall fun op => op.fresh = ∅ := by
  simp only [List.Forall]; repeat' constructor
/-- The arrays that these host operations write. -/
abbrev hostOps1_W : List (Ref sig .tc) := [main_call0_v1, main_call0_v2, main_call0_v3, main_call0_v4]
/-- They write no other array. -/
theorem hostOps1_writes : (hostOps1 : List (HloOp τ sig (Elt F))).Forall fun op => op.writes ⊆ (hostOps1_W.map (Proc.devRef (τ := τ) .tc)).toFinset :=
  StableHlo.forall_writes_sub_of_map rfl
/-- They write no argument. -/
theorem hostOps1_args : ∀ a ∈ argRefs, a ∉ hostOps1_W := ListAll.forall_mem_of_all_decide (by decide +kernel)

/-- The host operations after call 4 allocate nothing. -/
theorem hostOps4_fresh : (hostOps4 : List (HloOp τ sig (Elt F))).Forall fun op => op.fresh = ∅ := by
  simp only [List.Forall]; repeat' constructor
/-- The arrays that these host operations write. -/
abbrev hostOps4_W : List (Ref sig .tc) := [main_v0]
/-- They write no other array. -/
theorem hostOps4_writes : (hostOps4 : List (HloOp τ sig (Elt F))).Forall fun op => op.writes ⊆ (hostOps4_W.map (Proc.devRef (τ := τ) .tc)).toFinset :=
  StableHlo.forall_writes_sub_of_map rfl
/-- They write no argument. -/
theorem hostOps4_args : ∀ a ∈ argRefs, a ∉ hostOps4_W := ListAll.forall_mem_of_all_decide (by decide +kernel)

/-- The contents of the arrays at boundary 0 of the program. -/
abbrev W0 : Dev nD → Valuation τ sig (Elt F) := fun c b => (s₀ m ρ).mem ((c : Dev nD), b)
/-- At boundary 0 the arguments are as at launch. -/
theorem W0_args (c : Dev nD) : ∀ a ∈ argRefs, W0 m ρ c (Proc.devRef .tc a) = m ((c : Thread nD τ).loc a) := fun _ _ => rfl
/-- The same contents at boundary 0, read at the core's references. -/
abbrev V0 : (c : Dev nD) → (b : Ref sig .tc) → Buf (Elt F) ((c : Thread nD τ).loc b) := fun c b => W0 m ρ c b
/-- The contents of the arrays at boundary 1 of the program. -/
def W1 (c : Dev nD) : Valuation τ sig (Elt F) :=
  Pipeline.withArrays spec0 c (W0 m ρ c) fun w => (dat0 (V0 m ρ) c).arrAt w cfg0.N
/-- At boundary 1 an array of the call that ends there holds what its pipeline leaves. -/
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
/-- At boundary 1 an array that the call does not stage is as before it. -/
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- At boundary 1 an array that the item before it does not write is as before it. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- An argument that call 0 stages is one of its inputs. -/
theorem argsIn0 : ∀ a ∈ argRefs, ∀ w : Fin cfg0.W, Pipeline.arrRef spec0 w = a → (cfg0.win w).isOut = false :=
  ListAll.forall_mem_of_all_decide (by decide +kernel)
/-- At boundary 1 the arguments are as at launch. -/
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same contents at boundary 1, read at the core's references. -/
abbrev V1 : (c : Dev nD) → (b : Ref sig .tc) → Buf (Elt F) ((c : Thread nD τ).loc b) := fun c b => W1 m ρ c b
/-- After call 0 its arrays hold what its pipeline leaves. -/
theorem hF0 (c : Dev nD) (w : Fin cfg0.W) : (dat0 (V0 m ρ) c).arrAt w cfg0.N = V1 m ρ c (Pipeline.arrRef spec0 w) :=
  (W1_arr m ρ c w).symm
/-- After call 0 every other array is as before. -/
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- The contents of the arrays at boundary 2 of the program. -/
abbrev W2 : Dev nD → Valuation τ sig (Elt F) := fun c => StableHlo.after hostOps1 (W1 m ρ c)
/-- At boundary 2 an array that the item before it does not write is as before it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
/-- At boundary 2 the arguments are as at launch. -/
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same contents at boundary 2, read at the core's references. -/
abbrev V2 : (c : Dev nD) → (b : Ref sig .tc) → Buf (Elt F) ((c : Thread nD τ).loc b) := fun c b => W2 m ρ c b
/-- The contents of the arrays at boundary 3 of the program. -/
def W3 (c : Dev nD) : Valuation τ sig (Elt F) :=
  Pipeline.withArrays spec1 c (W2 m ρ c) fun w => (dat1 (V2 m ρ) c).arrAt w cfg1.N
/-- At boundary 3 an array of the call that ends there holds what its pipeline leaves. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- At boundary 3 an array that the call does not stage is as before it. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- At boundary 3 an array that the item before it does not write is as before it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- An argument that call 1 stages is one of its inputs. -/
theorem argsIn1 : ∀ a ∈ argRefs, ∀ w : Fin cfg1.W, Pipeline.arrRef spec1 w = a → (cfg1.win w).isOut = false :=
  ListAll.forall_mem_of_all_decide (by decide +kernel)
/-- At boundary 3 the arguments are as at launch. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same contents at boundary 3, read at the core's references. -/
abbrev V3 : (c : Dev nD) → (b : Ref sig .tc) → Buf (Elt F) ((c : Thread nD τ).loc b) := fun c b => W3 m ρ c b
/-- After call 1 its arrays hold what its pipeline leaves. -/
theorem hF1 (c : Dev nD) (w : Fin cfg1.W) : (dat1 (V2 m ρ) c).arrAt w cfg1.N = V3 m ρ c (Pipeline.arrRef spec1 w) :=
  (W3_arr m ρ c w).symm
/-- After call 1 every other array is as before. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The contents of the arrays at boundary 4 of the program. -/
def W4 (c : Dev nD) : Valuation τ sig (Elt F) :=
  Pipeline.withArrays spec2 c (W3 m ρ c) fun w => (dat2 (V3 m ρ) c).arrAt w cfg2.N
/-- At boundary 4 an array of the call that ends there holds what its pipeline leaves. -/
theorem W4_arr (c : Dev nD) (w : Fin cfg2.W) :
    W4 m ρ c (Proc.devRef .tc (Pipeline.arrRef spec2 w)) = (dat2 (V3 m ρ) c).arrAt w cfg2.N := by
  unfold W4; exact (dat2 (V3 m ρ) c).withArrays_arrAt launch₀2.sharedIn _ (A_eq2 (V3 m ρ) c) w
/-- At boundary 4 an array that the call does not stage is as before it. -/
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- At boundary 4 an array that the item before it does not write is as before it. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- An argument that call 2 stages is one of its inputs. -/
theorem argsIn2 : ∀ a ∈ argRefs, ∀ w : Fin cfg2.W, Pipeline.arrRef spec2 w = a → (cfg2.win w).isOut = false :=
  ListAll.forall_mem_of_all_decide (by decide +kernel)
/-- At boundary 4 the arguments are as at launch. -/
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same contents at boundary 4, read at the core's references. -/
abbrev V4 : (c : Dev nD) → (b : Ref sig .tc) → Buf (Elt F) ((c : Thread nD τ).loc b) := fun c b => W4 m ρ c b
/-- After call 2 its arrays hold what its pipeline leaves. -/
theorem hF2 (c : Dev nD) (w : Fin cfg2.W) : (dat2 (V3 m ρ) c).arrAt w cfg2.N = V4 m ρ c (Pipeline.arrRef spec2 w) :=
  (W4_arr m ρ c w).symm
/-- After call 2 every other array is as before. -/
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- The contents of the arrays at boundary 5 of the program. -/
def W5 (c : Dev nD) : Valuation τ sig (Elt F) :=
  Pipeline.withArrays spec3 c (W4 m ρ c) fun w => (dat3 (V4 m ρ) c).arrAt w cfg3.N
/-- At boundary 5 an array of the call that ends there holds what its pipeline leaves. -/
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
/-- At boundary 5 an array that the call does not stage is as before it. -/
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- At boundary 5 an array that the item before it does not write is as before it. -/
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
/-- An argument that call 3 stages is one of its inputs. -/
theorem argsIn3 : ∀ a ∈ argRefs, ∀ w : Fin cfg3.W, Pipeline.arrRef spec3 w = a → (cfg3.win w).isOut = false :=
  ListAll.forall_mem_of_all_decide (by decide +kernel)
/-- At boundary 5 the arguments are as at launch. -/
theorem W5_args (c : Dev nD) : ∀ a ∈ argRefs, W5 m ρ c (Proc.devRef .tc a) = m ((c : Thread nD τ).loc a) :=
  fun a ha => (W5_of m ρ c a (argsIn3 a ha)).trans (W4_args m ρ c a ha)
/-- The same contents at boundary 5, read at the core's references. -/
abbrev V5 : (c : Dev nD) → (b : Ref sig .tc) → Buf (Elt F) ((c : Thread nD τ).loc b) := fun c b => W5 m ρ c b
/-- After call 3 its arrays hold what its pipeline leaves. -/
theorem hF3 (c : Dev nD) (w : Fin cfg3.W) : (dat3 (V4 m ρ) c).arrAt w cfg3.N = V5 m ρ c (Pipeline.arrRef spec3 w) :=
  (W5_arr m ρ c w).symm
/-- After call 3 every other array is as before. -/
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- The contents of the arrays at boundary 6 of the program. -/
abbrev W6 : Dev nD → Valuation τ sig (Elt F) := fun c => StableHlo.after hostOps4 (W5 m ρ c)
/-- At boundary 6 an array that the item before it does not write is as before it. -/
theorem W6_of (c : Dev nD) (r : Ref sig .tc) (h : r ∉ hostOps4_W) : W6 m ρ c (Proc.devRef .tc r) = W5 m ρ c (Proc.devRef .tc r) :=
  StableHlo.after_of_writes_sub hostOps4 _ hostOps4_writes h
/-- At boundary 6 the arguments are as at launch. -/
theorem W6_args (c : Dev nD) : ∀ a ∈ argRefs, W6 m ρ c (Proc.devRef .tc a) = m ((c : Thread nD τ).loc a) :=
  fun a ha => (W6_of m ρ c a (hostOps4_args a ha)).trans (W5_args m ρ c a ha)

/-- Argument 0 ends as at launch. -/
theorem W6_main_arg0 (c : Dev nD) : W6 m ρ c (Proc.devRef .tc main_arg0) = m ((c : Thread nD τ).loc main_arg0) :=
  W6_args m ρ c main_arg0 (by decide)
/-- Argument 1 ends as at launch. -/
theorem W6_main_arg1 (c : Dev nD) : W6 m ρ c (Proc.devRef .tc main_arg1) = m ((c : Thread nD τ).loc main_arg1) :=
  W6_args m ρ c main_arg1 (by decide)

/-- No call has a prefetched table. -/
abbrev adm : (p : Fin 4) → (pcfgs (F := F) p).Adm := fun p => (cfgs p).toPCfg_adm
/-- The proof data of the four calls, each at the contents it is entered with. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
  | ⟨3, _⟩ => fun c => dat3 (V4 m ρ) c
/-- No loop variants are used. -/
abbrev 𝒱₀ : Variants := Variants.none
/-- No core owes another anything. -/
abbrev L : GSem nD τ sig → Finset Unit := fun _ => ∅
/-- The levels of what is owed: none. -/
abbrev lv : GSem nD τ sig → Unit → ℕ := fun _ _ => 0
/-- What goes along with the arrays from item to item: the generator register, and that nothing is owed. -/
abbrev R (c : Dev nD) : sProp 𝕄 := iprop((∃ r, prngReg c r) ∗ ∃ W, owes (c : Thread nD τ) (0 : CellTallies nD τ sig Unit) W)
/-- A stretch of host operations as a segment of the program. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An array that outlives the calls is among those the state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the end, apart from what is owed. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- Call 0 as a segment of the program: what it takes, what it leaves. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of the program: what it takes, what it leaves. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment of the program: what it takes, what it leaves. -/
def reg2 : Pipeline.RegionSeg (pcfgs (F := F)) adm (pdats m ρ) () defs₀ 𝒱₀ L lv 2 where
  win := launch₀2.win
  block_pos := launch₀2.block_pos
  stage_whole := launch₀2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs_shared (p := 2) (pcfgs (F := F)) adm (pdats m ρ) launch₀2.win launch₀2.sharedIn launch₀2.arr_whole c
      (fun _ _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show (_ : sProp 𝕄) ⊢ _ from by
    rw [show (pdats m ρ 2 c).Φ 0 = Pipeline.ΦA spec2 c from rfl]; unfold Pipeline.ΦA
    iintro ⟨Hp, -, Hr⟩
    isplitl [Hr]; · iexact Hr
    iexact Hp)
  hout c := (Phi2_out (V3 m ρ) c).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (pdats m ρ) (fun _ _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a segment of the program: what it takes, what it leaves. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ),
    .region (reg3 m ρ),
    .host (hseg hostOps4 hostOps4_sub hostOps4_fresh (W5 m ρ)) ]
/-- The program is the run of its segments. -/
theorem main_run (c : Dev nD) : main (F := F) c = Pipeline.Seg.run (segs m ρ) := (main_chain c).trans (by chain_rfl)

/-- The core has no semaphore that outlives the calls. -/
theorem no_unscoped : ∀ sm : SemLoc sig, sm.isScoped .tc = true := by decide
set_option backward.isDefEq.respectTransparency.types false in
/-- The run of the whole program, from any memory with zero counters: it ends, on each core the arguments are as launched and
    the result is what the last boundary holds of it, and every counter is back at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v0) = W6 m ρ c main_v0)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_arg0 (by decide))).trans (W6_main_arg0 m ρ c),
       (h c _ (mem_uc main_arg1 (by decide))).trans (W6_main_arg1 m ρ c),
       h c _ (mem_uc main_v0 (by decide))⟩), funext fun g => hz g (.inr (no_unscoped g.2))⟩)

/-- The frame: the program ends with its arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1, (h.1 c).2.1⟩, h.2⟩) (run m ρ)

end Cert.KernelIdeal.Fr

end
-- ==== Proof.Value.Labels.lean ====
/- Which places of a row of labels are in use: those before its first zero label. -/
module

public import Idealize.ShloMosaic.Lib.Pointwise

@[expose] public section

noncomputable section

namespace Cert.Labels

open Idealize.ShloMosaic

/-- `e` ends the labels `a`: it is the first place from one on with a zero label, or one where there is none. -/
def End (a : Fin 27 → BitVec 32) (e : ℕ) : Prop :=
  (e = 1 ∧ ∀ x : Fin 27, 1 ≤ x.val → a x ≠ 0#32) ∨
  (1 ≤ e ∧ (∃ h : e < 27, a ⟨e, h⟩ = 0#32) ∧ ∀ x : Fin 27, 1 ≤ x.val → x.val < e → a x ≠ 0#32)

/-- There is at most one end. -/
theorem End.unique {a : Fin 27 → BitVec 32} {e d : ℕ} (h : End a e) (k : End a d) : e = d := by
  rcases h with ⟨rfl, h⟩ | ⟨h1, ⟨h2, h3⟩, h⟩ <;> rcases k with ⟨rfl, k⟩ | ⟨k1, ⟨k2, k3⟩, k⟩
  · rfl
  · exact absurd k3 (h ⟨d, k2⟩ k1)
  · exact absurd h3 (k ⟨e, h2⟩ h1)
  · rcases Nat.lt_trichotomy e d with l | l | l
    · exact absurd h3 (k ⟨e, h2⟩ h1 l)
    · exact l
    · exact absurd k3 (h ⟨d, k2⟩ k1 l)

/-- An end is at least one and at most 26. -/
theorem End.bounds {a : Fin 27 → BitVec 32} {e : ℕ} (h : End a e) : 1 ≤ e ∧ e < 27 := by
  rcases h with ⟨rfl, -⟩ | ⟨h1, ⟨h2, -⟩, -⟩ <;> omega

/-- Place `t` is in use. -/
def Used (a : Fin 27 → BitVec 32) (t : Fin 27) : Prop := ∃ e, End a e ∧ t.val < e

/-- A place in use that is not the first has a label other than zero. -/
theorem Used.ne_zero {a : Fin 27 → BitVec 32} {t : Fin 27} (h : Used a t) (h0 : a ⟨0, by omega⟩ ≠ 0#32) : a t ≠ 0#32 := by
  obtain ⟨e, he, ht⟩ := h
  by_cases z : t.val = 0
  · rwa [show t = ⟨0, by omega⟩ from Fin.ext z]
  · rcases he with ⟨rfl, -⟩ | ⟨-, -, he⟩
    · omega
    · exact he t (by omega) ht

/-- The first place is in use once an end is there. -/
theorem used_zero {a : Fin 27 → BitVec 32} {e : ℕ} (h : End a e) : Used a ⟨0, by omega⟩ := ⟨e, h, h.bounds.1⟩

/-- A small natural as a word reads back as itself. -/
theorem toInt_ofNat {n : ℕ} (h : n < 2147483648) : (BitVec.ofNat 32 n).toInt = n := by
  rw [BitVec.toInt_eq_toNat_of_lt] <;> simp only [BitVec.toNat_ofNat] <;> omega

/-- The signed order of two small naturals as words. -/
theorem slt_ofNat {n m : ℕ} (hn : n < 2147483648) (hm : m < 2147483648) :
    (BitVec.ofNat 32 n).slt (BitVec.ofNat 32 m) = decide (n < m) := by
  rw [BitVec.slt_eq_decide, toInt_ofNat hn, toInt_ofNat hm]; simp

/-- The signed weak order of two small naturals as words. -/
theorem sle_ofNat {n m : ℕ} (hn : n < 2147483648) (hm : m < 2147483648) :
    (BitVec.ofNat 32 n).sle (BitVec.ofNat 32 m) = decide (n ≤ m) := by
  rw [BitVec.sle_eq_decide, toInt_ofNat hn, toInt_ofNat hm]; simp

open Classical in
/-- "Place before end" as a bit is whether the place is in use. -/
theorem used_bit {a : Fin 27 → BitVec 32} {e : ℕ} (h : End a e) (t : Fin 27) :
    IntOp.cmpi .slt (BitVec.ofNat 32 t.val) (BitVec.ofNat 32 e) = BitVec.ofBool (decide (Used a t)) := by
  have hb := h.bounds
  have ht := t.isLt
  simp only [IntOp.cmpi]
  rw [slt_ofNat (by omega) (by omega)]
  congr 1
  rw [decide_eq_decide]
  exact ⟨fun l => ⟨e, h, l⟩, fun ⟨d, hd, l⟩ => by rw [h.unique hd]; exact l⟩

/-- What place `x` offers to the least-place search: itself at a zero label past the first place, 27 elsewhere. -/
def offer (a : Fin 27 → BitVec 32) (x : Fin 27) : ℕ := if a x = 0#32 ∧ 1 ≤ x.val then x.val else 27

/-- The search's word at a place. -/
theorem offer_word (a : Fin 27 → BitVec 32) (x : Fin 27) :
    Scalar.select (IntOp.andi (IntOp.cmpi .eq (a x) 0#32) (IntOp.cmpi .sge (BitVec.ofNat 32 x.val) 1#32)) (BitVec.ofNat 32 x.val) 27#32
      = BitVec.ofNat 32 (offer a x) := by
  have hx := x.isLt
  have h1 : (1#32).sle (BitVec.ofNat 32 x.val) = decide (1 ≤ x.val) := sle_ofNat (by omega) (by omega)
  simp only [IntOp.cmpi, h1, offer, beq_eq_decide]
  by_cases p : a x = 0#32 <;> by_cases q : 1 ≤ x.val <;> simp [p, q, Scalar.select, IntOp.andi]

/-- The signed minimum of two small naturals as words. -/
theorem minsi_ofNat {n m : ℕ} (hn : n < 2147483648) (hm : m < 2147483648) :
    IntOp.minsi (BitVec.ofNat 32 n) (BitVec.ofNat 32 m) = BitVec.ofNat 32 (min n m) := by
  simp only [IntOp.minsi, slt_ofNat hn hm, sle_ofNat hn hm]
  by_cases h : n < m
  · simp [h, Nat.min_eq_left (Nat.le_of_lt h)]
  · simp [h, Nat.min_eq_right (Nat.le_of_not_lt h)]

/-- The least word offered is the least offer. -/
theorem fold_minsi (a : Fin 27 → BitVec 32) (s : Finset (Fin 27)) :
    Finset.fold IntOp.minsi 2147483647#32 (fun x => BitVec.ofNat 32 (offer a x)) s = BitVec.ofNat 32 (s.fold min 2147483647 (offer a)) := by
  classical
  induction s using Finset.induction_on with
  | empty => rfl
  | insert x s hx ih =>
    rw [Finset.fold_insert hx, Finset.fold_insert hx, ih, minsi_ofNat]
    · have := x.isLt
      unfold offer; split <;> omega
    · have : s.fold min 2147483647 (offer a) ≤ 2147483647 := (Finset.fold_min_le _).2 (Or.inl le_rfl)
      omega

/-- The least-place search finds the end. -/
theorem end_of_min (a : Fin 27 → BitVec 32) :
    ∃ e, End a e ∧
      Scalar.select (IntOp.cmpi .sge (Finset.fold IntOp.minsi 2147483647#32 (fun x => BitVec.ofNat 32 (offer a x)) Finset.univ) 27#32) 1#32
        (Finset.fold IntOp.minsi 2147483647#32 (fun x => BitVec.ofNat 32 (offer a x)) Finset.univ) = BitVec.ofNat 32 e := by
  rw [fold_minsi]
  set n := Finset.univ.fold min 2147483647 (offer a) with hn
  have le : ∀ x, n ≤ offer a x := fun x => ((Finset.le_fold_min _).1 (le_of_eq hn)).2 x (Finset.mem_univ x)
  have n27 : n ≤ 27 := by
    have := le ⟨0, by omega⟩
    simpa [offer] using this
  have h1 : (27#32).sle (BitVec.ofNat 32 n) = decide (27 ≤ n) := sle_ofNat (by omega) (by omega)
  by_cases h : 27 ≤ n
  · refine ⟨1, Or.inl ⟨rfl, fun x hx hz => ?_⟩, ?_⟩
    · have := le x
      have hx' := x.isLt
      simp only [offer, hz, hx, and_self, if_true] at this
      omega
    · simp [IntOp.cmpi, h1, h, Scalar.select]
  · obtain ⟨x, -, hx⟩ := ((Finset.fold_min_le n).1 (le_of_eq hn.symm)).resolve_left (by omega)
    have key : a x = 0#32 ∧ 1 ≤ x.val := by
      by_contra c
      simp only [offer, c, if_false] at hx
      omega
    have xn : x.val = n := by
      have := le x
      simp only [offer, key, and_self, if_true] at hx this
      omega
    refine ⟨n, Or.inr ⟨by omega, ⟨by omega, ?_⟩, fun y hy hl hz => ?_⟩, ?_⟩
    · rw [show (⟨n, by omega⟩ : Fin 27) = x from Fin.ext xn.symm]; exact key.1
    · have := le y
      simp only [offer, hz, hy, and_self, if_true] at this
      omega
    · simp [IntOp.cmpi, h1, h, Scalar.select]

end Cert.Labels

end
-- ==== Proof.Value.Rows.lean ====
/- One row of the loss on the extended reals. -/
module

public import Idealize.ShloMosaic.Lib.Pointwise

@[expose] public section

noncomputable section

namespace Cert.Rows

open Idealize.ShloMosaic

/-- A finite sum of reals, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert x s hx ih => rw [Finset.sum_insert hx, Finset.sum_insert hx, EReal.coe_add, ih]

/-- The bound from below of a row's length. -/
theorem eps_pos : ∃ e : ℝ, 0 < e ∧ Ideal.ofBits .f32 0x2B8CBCCC#32 = (e : EReal) := by
  have s : (BitVec.extractLsb' 31 1 0x2B8CBCCC#32 == 1#1) = false := by decide
  have x : (BitVec.extractLsb' 23 8 0x2B8CBCCC#32).toNat = 87 := by decide
  simp only [Ideal.ofBits, Ideal.ieee, s, x]
  refine ⟨_, ?_, by norm_num; rfl⟩
  positivity

/-- The bound from below of a row's two sums lies under `exp (-1)`. -/
theorem tiny_le : ∃ e : ℝ, e ≤ Real.exp (-1) ∧ Ideal.ofBits .f32 0x0DA24260#32 = (e : EReal) := by
  have s : (BitVec.extractLsb' 31 1 0x0DA24260#32 == 1#1) = false := by decide
  have x : (BitVec.extractLsb' 23 8 0x0DA24260#32).toNat = 27 := by decide
  have f : (BitVec.extractLsb' 0 23 0x0DA24260#32).toNat = 2245216 := by decide
  simp only [Ideal.ofBits, Ideal.ieee, s, x, f]
  have h : (1 : ℝ) / 4 ≤ Real.exp (-1) := by
    have a : (1 : ℝ) / 2 ≤ Real.exp (-(1 / 2)) := by
      have := Real.add_one_le_exp (-(1 / 2 : ℝ))
      linarith
    have b : Real.exp (-1) = Real.exp (-(1 / 2)) * Real.exp (-(1 / 2)) := by rw [← Real.exp_add]; norm_num
    rw [b]
    nlinarith
  refine ⟨_, ?_, by norm_num; rfl⟩
  refine le_trans ?_ h
  norm_num

/-- The word of minus infinity reads as the least extended real. -/
theorem neg_inf : Ideal.ofBits .f32 0xFF800000#32 = (⊥ : EReal) := by
  simp [Ideal.ofBits, Ideal.ieee]

/-- Dividing by a value that is not zero is multiplying by its inverse. -/
theorem div_ne {x y : EReal} (h : y ≠ 0) : Ideal.div x y = x * y⁻¹ := if_neg h

/-- The length of a row, at least the bound. -/
def len (x : Fin 1024 → EReal) : EReal := max (Ideal.sqrt (∑ k, x k * x k)) (Ideal.ofBits .f32 0x2B8CBCCC#32)

/-- The length that a row is divided by is not zero. -/
theorem len_ne (x : Fin 1024 → EReal) : len x ≠ 0 := by
  obtain ⟨e, he, h⟩ := eps_pos
  have : (0 : EReal) < len x := lt_of_lt_of_le (EReal.coe_pos.2 he) (h ▸ le_max_right _ _)
  exact ne_of_gt this

/-- A square is not negative. -/
theorem mul_self_nonneg (a : EReal) : 0 ≤ a * a := by
  induction a using EReal.rec with
  | bot => simp
  | top => simp
  | coe r => rw [← EReal.coe_mul]; exact EReal.coe_nonneg.2 (_root_.mul_self_nonneg r)

/-- A row divided by its length is a real row whose squares sum to at most one, whatever the row. -/
theorem unit_row (x : Fin 1024 → EReal) :
    ∃ r : Fin 1024 → ℝ, (∀ k, x k * (len x)⁻¹ = (r k : EReal)) ∧ ∑ k, r k * r k ≤ 1 := by
  by_cases fin : ∀ k, x k ≠ ⊥ ∧ x k ≠ ⊤
  · have hx : ∀ k, x k = ((x k).toReal : EReal) := fun k => (EReal.coe_toReal (fin k).2 (fin k).1).symm
    obtain ⟨e, he, h⟩ := eps_pos
    set y : Fin 1024 → ℝ := fun k => (x k).toReal with hy
    have hs : ∑ k, x k * x k = ((∑ k, y k * y k : ℝ) : EReal) := by
      rw [coe_sum]
      exact Finset.sum_congr rfl fun k _ => by rw [EReal.coe_mul, ← hx k]
    set S := ∑ k, y k * y k with hS
    have S0 : 0 ≤ S := Finset.sum_nonneg fun k _ => _root_.mul_self_nonneg _
    have hl : len x = ((max (Real.sqrt S) e : ℝ) : EReal) := by
      rw [len, hs, h, Ideal.sqrt_coe, if_neg (not_lt.2 S0)]
      exact (EReal.coe_strictMono.monotone.map_max).symm
    set b := max (Real.sqrt S) e with hb
    have b0 : 0 < b := lt_of_lt_of_le he (le_max_right _ _)
    refine ⟨fun k => y k * b⁻¹, fun k => ?_, ?_⟩
    · rw [hl, EReal.coe_mul, ← hx k, EReal.coe_inv]
    · have : ∑ k, y k * b⁻¹ * (y k * b⁻¹) = S / (b * b) := by
        rw [hS, Finset.sum_div]
        exact Finset.sum_congr rfl fun k _ => by field_simp
      rw [this, div_le_one (mul_pos b0 b0)]
      calc S = Real.sqrt S * Real.sqrt S := (Real.mul_self_sqrt S0).symm
        _ ≤ b * b := mul_le_mul (le_max_left _ _) (le_max_left _ _) (Real.sqrt_nonneg _) b0.le
  · push Not at fin
    obtain ⟨k, hk⟩ := fin
    have top : x k * x k = ⊤ := by
      by_cases c : x k = ⊥
      · rw [c]; rfl
      · rw [hk c]; rfl
    have hs : ∑ k, x k * x k = ⊤ := by
      refine top_le_iff.1 (top ▸ ?_)
      exact Finset.single_le_sum (f := fun k => x k * x k) (fun k _ => mul_self_nonneg _) (Finset.mem_univ k)
    have hl : len x = ⊤ := by
      rw [len, hs]
      exact top_le_iff.1 (le_max_left _ _)
    exact ⟨fun _ => 0, fun k => by rw [hl, EReal.inv_top, mul_zero]; rfl, by simp⟩

/-- The product of two real rows of length at most one is at most one in size. -/
theorem abs_dot_le {f g : Fin 1024 → ℝ} (hf : ∑ k, f k * f k ≤ 1) (hg : ∑ k, g k * g k ≤ 1) : |∑ k, f k * g k| ≤ 1 := by
  rw [← sq_le_one_iff_abs_le_one]
  have h := Finset.sum_mul_sq_le_sq_mul_sq Finset.univ f g
  simp only [sq] at h ⊢
  refine h.trans ?_
  have f0 : 0 ≤ ∑ k, f k * f k := Finset.sum_nonneg fun k _ => _root_.mul_self_nonneg _
  have g0 : 0 ≤ ∑ k, g k * g k := Finset.sum_nonneg fun k _ => _root_.mul_self_nonneg _
  exact mul_le_one₀ hf g0 hg

/-- The product of two real rows, as an extended real. -/
theorem dot_coe (f g : Fin 1024 → ℝ) : ∑ k, (f k : EReal) * (g k : EReal) = ((∑ k, f k * g k : ℝ) : EReal) := by
  rw [coe_sum]
  exact Finset.sum_congr rfl fun k _ => (EReal.coe_mul _ _).symm

/-- With the second row scaled by `1 / log 2`, the power of two of the product is the exponential of the plain product. -/
theorem exp2_dot (f g : Fin 1024 → ℝ) :
    Ideal.exp2 (∑ k, (f k : EReal) * ((g k : EReal) * (((Real.log 2)⁻¹ : ℝ) : EReal))) = ((Real.exp (∑ k, f k * g k) : ℝ) : EReal) := by
  have : ∑ k, (f k : EReal) * ((g k : EReal) * (((Real.log 2)⁻¹ : ℝ) : EReal)) = (((∑ k, f k * g k) * (Real.log 2)⁻¹ : ℝ) : EReal) := by
    rw [Finset.sum_mul, coe_sum]
    exact Finset.sum_congr rfl fun k _ => by rw [← EReal.coe_mul, ← EReal.coe_mul, mul_assoc]
  rw [this, Ideal.exp2_coe]
  have l2 : Real.log 2 ≠ 0 := (Real.log_pos (by norm_num)).ne'
  generalize (∑ k, f k * g k) = t
  have e : Real.log 2 * (t * (Real.log 2)⁻¹) = t := by rw [mul_comm t, mul_inv_cancel_left₀ l2]
  rw [Real.rpow_eq_pow, Real.rpow_def_of_pos two_pos, e]

variable {J : Type} [Fintype J]

/-- One row's positive terms as the kernel adds them. -/
def kpos (P : J → Prop) [DecidablePred P] (E : J → EReal) : EReal := ∑ j, if P j then Ideal.div 1 (E j) else 0

/-- One row's negative terms as the kernel adds them. -/
def kneg (P Q : J → Prop) [DecidablePred P] [DecidablePred Q] (E : J → EReal) : EReal := ∑ j, (if P j then 0 else E j) * (if Q j then 1 else 0)

/-- The argument of the softplus as the kernel forms it from its two sums. -/
def karg (p n : EReal) : EReal := Ideal.log (max p (Ideal.ofBits .f32 0x0DA24260#32) * max n (Ideal.ofBits .f32 0x0DA24260#32))

/-- The logarithm of the sum of the exponentials of what a mask keeps. -/
def lse (P : J → Prop) [DecidablePred P] (s : J → EReal) : EReal := Ideal.log (∑ j, Ideal.exp (if P j then s j else ⊥))

/-- A sum of exponentials over what a mask keeps, something being kept and every exponent at least minus one. -/
theorem sum_exp_ge (P : J → Prop) [DecidablePred P] (s : J → ℝ) (hs : ∀ j, -1 ≤ s j) (h : ∃ j, P j) :
    Real.exp (-1) ≤ ∑ j, if P j then Real.exp (s j) else 0 := by
  obtain ⟨j, hj⟩ := h
  calc Real.exp (-1) ≤ if P j then Real.exp (s j) else 0 := by rw [if_pos hj]; exact Real.exp_le_exp.2 (hs j)
    _ ≤ _ := Finset.single_le_sum (f := fun j => if P j then Real.exp (s j) else 0)
      (fun i _ => by split; exacts [(Real.exp_pos _).le, le_rfl]) (Finset.mem_univ j)

/-- The logarithm of a masked sum of exponentials is real when the mask keeps something. -/
theorem lse_coe (P : J → Prop) [DecidablePred P] (s : J → ℝ) (hs : ∀ j, -1 ≤ s j) (h : ∃ j, P j) :
    lse P (fun j => (s j : EReal)) = ((Real.log (∑ j, if P j then Real.exp (s j) else 0) : ℝ) : EReal) := by
  have : ∑ j, Ideal.exp (if P j then (s j : EReal) else ⊥) = ((∑ j, if P j then Real.exp (s j) else 0 : ℝ) : EReal) := by
    rw [coe_sum]
    exact Finset.sum_congr rfl fun j _ => by split <;> rfl
  rw [lse, this, Ideal.log_coe, if_neg (not_le.2 (lt_of_lt_of_le (Real.exp_pos _) (sum_exp_ge P s hs h)))]

/-- The kernel's sum over the pairs with one label is real. -/
theorem kpos_coe (P : J → Prop) [DecidablePred P] (s : J → ℝ) :
    kpos P (fun j => ((Real.exp (s j) : ℝ) : EReal)) = ((∑ j, if P j then Real.exp (-s j) else 0 : ℝ) : EReal) := by
  rw [kpos, coe_sum]
  refine Finset.sum_congr rfl fun j _ => ?_
  split
  · rw [div_ne (by exact_mod_cast (Real.exp_pos _).ne'), one_mul, Real.exp_neg, EReal.coe_inv]
  · rfl

/-- The kernel's sum over the pairs with two labels is real. -/
theorem kneg_coe (P Q : J → Prop) [DecidablePred P] [DecidablePred Q] (s : J → ℝ) :
    kneg P Q (fun j => ((Real.exp (s j) : ℝ) : EReal)) = ((∑ j, if ¬ P j ∧ Q j then Real.exp (s j) else 0 : ℝ) : EReal) := by
  rw [kneg, coe_sum]
  refine Finset.sum_congr rfl fun j _ => ?_
  by_cases p : P j <;> by_cases q : Q j <;> simp [p, q]

/-- The row equation: the kernel's one logarithm of a product of two bounded sums is the sum of the two
    logarithms of sums of exponentials, when the row has a positive and a negative. -/
theorem row_eq (P Q : J → Prop) [DecidablePred P] [DecidablePred Q] (s : J → ℝ) (hs : ∀ j, |s j| ≤ 1)
    (hp : ∃ j, P j) (hn : ∃ j, ¬ P j ∧ Q j) :
    karg (kpos P (fun j => ((Real.exp (s j) : ℝ) : EReal))) (kneg P Q (fun j => ((Real.exp (s j) : ℝ) : EReal)))
      = lse P (fun j => -(s j : EReal)) + lse (fun j => ¬ P j ∧ Q j) (fun j => (s j : EReal)) := by
  have a1 : ∀ j, -1 ≤ -s j := fun j => neg_le_neg (abs_le.1 (hs j)).2
  have a2 : ∀ j, -1 ≤ s j := fun j => (abs_le.1 (hs j)).1
  have g1 := sum_exp_ge P (fun j => -s j) a1 hp
  have g2 := sum_exp_ge (fun j => ¬ P j ∧ Q j) s a2 hn
  have l1 := lse_coe P (fun j => -s j) a1 hp
  simp only [EReal.coe_neg] at l1
  rw [l1, lse_coe (fun j => ¬ P j ∧ Q j) s a2 hn, kpos_coe, kneg_coe, karg]
  obtain ⟨e, he, h⟩ := tiny_le
  have p1 := lt_of_lt_of_le (Real.exp_pos _) g1
  have p2 := lt_of_lt_of_le (Real.exp_pos _) g2
  rw [h, max_eq_left (EReal.coe_le_coe_iff.2 (he.trans g1)), max_eq_left (EReal.coe_le_coe_iff.2 (he.trans g2)),
    ← EReal.coe_mul, Ideal.log_coe, if_neg (not_le.2 (mul_pos p1 p2)), Real.log_mul p1.ne' p2.ne', EReal.coe_add]

/-- The softplus as both programs form it. -/
def soft (z : EReal) : EReal := max z 0 + Ideal.log1p (Ideal.exp (-(max z (-z))))

end Cert.Rows

end
-- ==== Proof.Value.Loss.lean ====
/- The loss of the two arguments, as the reference adds it and as the kernel adds it, and that they agree. -/
module

public import proofs.«01_k».proof.Proof.Value.Labels
public import proofs.«01_k».proof.Proof.Value.Rows

@[expose] public section

set_option maxRecDepth 16384

noncomputable section

namespace Cert.Loss

open Idealize.ShloMosaic Classical

variable {J : Type} [Fintype J]

/-- The product of two rows. -/
def sim (f : J → Fin 1024 → EReal) (i j : J) : EReal := ∑ k, f i k * f j k

/-- The number of rows in use. -/
def count (v : J → Prop) : EReal := ∑ i, if v i then 1 else 0

/-- The loss as the reference adds it, of which rows are in use, their labels and the rows. -/
def refLoss (v : J → Prop) (l : J → BitVec 32) (f : J → Fin 1024 → EReal) : EReal :=
  Ideal.div (∑ i, if v i then
    Rows.soft (Rows.lse (fun j => v j ∧ l i = l j) (fun j => -sim f i j) +
      Rows.lse (fun j => v j ∧ l i ≠ l j) (fun j => sim f i j)) else 0) (count v)

/-- The number that stands for a row's label in the kernel: zero for a row that is not in use. -/
def num (v : J → Prop) (l : J → BitVec 32) (i : J) : EReal := if v i then (((l i).toInt : ℝ) : EReal) else 0

/-- The exponential of the product of two rows, as the kernel forms it. -/
def pow (f : J → Fin 1024 → EReal) (i j : J) : EReal :=
  Ideal.exp2 (∑ k, f i k * (f j k * (((Real.log 2)⁻¹ : ℝ) : EReal)))

/-- What a pair of rows adds to the positive sum. -/
def posTerm (q : J → EReal) (f : J → Fin 1024 → EReal) (i j : J) : EReal := if q i = q j then Ideal.div 1 (pow f i j) else 0

/-- What a pair of rows adds to the negative sum. -/
def negTerm (q : J → EReal) (f : J → Fin 1024 → EReal) (i j : J) : EReal := (if q i = q j then 0 else pow f i j) * (if q j ≠ 0 then 1 else 0)

/-- A row's share of the loss as the kernel forms it. -/
def share (q : J → EReal) (f : J → Fin 1024 → EReal) (i : J) : EReal :=
  if q i ≠ 0 then
    Rows.soft (Rows.karg (Rows.kpos (fun j => q i = q j) (pow f i)) (Rows.kneg (fun j => q i = q j) (fun j => q j ≠ 0) (pow f i))) else 0

/-- A row's share through the sums of its terms. -/
theorem share_eq (q : J → EReal) (f : J → Fin 1024 → EReal) (i : J) :
    share q f i = if q i ≠ 0 then Rows.soft (Rows.karg (∑ j, posTerm q f i j) (∑ j, negTerm q f i j)) else 0 := rfl

/-- The loss as the kernel adds it. -/
def kernelLoss (v : J → Prop) (l : J → BitVec 32) (f : J → Fin 1024 → EReal) : EReal :=
  Ideal.div (∑ i, share (num v l) f i) (count v)

/-- Labels are equal when their numbers are. -/
theorem coe_toInt_inj {a b : BitVec 32} : (((a.toInt : ℝ) : EReal) = ((b.toInt : ℝ) : EReal)) ↔ a = b := by
  rw [EReal.coe_eq_coe_iff, Int.cast_inj]
  exact BitVec.toInt_inj

/-- A label is zero when its number is. -/
theorem coe_toInt_eq_zero {a : BitVec 32} : (((a.toInt : ℝ) : EReal) = 0) ↔ a = 0#32 := by
  have := coe_toInt_inj (a := a) (b := 0#32)
  simpa using this

section
variable {v : J → Prop} {l : J → BitVec 32} (h : ∀ i, v i → l i ≠ 0#32)
include h

/-- The number of a row is not zero exactly at the rows in use. -/
theorem num_ne (i : J) : num v l i ≠ 0 ↔ v i := by
  unfold num
  split
  · rename_i w
    exact iff_of_true (fun z => h i w (coe_toInt_eq_zero.1 z)) w
  · rename_i w
    simpa using w

/-- A row in use has the number of exactly the rows in use with its label. -/
theorem num_eq {i : J} (w : v i) (j : J) : num v l i = num v l j ↔ v j ∧ l i = l j := by
  by_cases u : v j
  · simp only [num, w, u, if_true, true_and, coe_toInt_inj]
  · have : num v l j = 0 := if_neg u
    simp only [this, u, false_and, iff_false]
    exact (num_ne h i).2 w

/-- The two losses agree on rows divided by their lengths, when no row in use has the label zero and two rows
    in use have different labels. -/
theorem kernel_eq_ref (x : J → Fin 1024 → EReal) (two : ∃ i j, v i ∧ v j ∧ l i ≠ l j) :
    kernelLoss v l (fun i k => x i k * (Rows.len (x i))⁻¹) = refLoss v l (fun i k => x i k * (Rows.len (x i))⁻¹) := by
  choose r hr hn using fun i => Rows.unit_row (x i)
  have fe : (fun i k => x i k * (Rows.len (x i))⁻¹) = fun i k => (r i k : EReal) := by funext i k; exact hr i k
  rw [fe]
  refine congrArg (fun s => Ideal.div s (count v)) (Finset.sum_congr rfl fun i _ => ?_)
  by_cases w : v i
  · rw [share, if_pos ((num_ne h i).2 w), if_pos w]
    refine congrArg Rows.soft ?_
    have se : ∀ j, sim (fun i k => (r i k : EReal)) i j = ((∑ k, r i k * r j k : ℝ) : EReal) := fun j => Rows.dot_coe _ _
    have pe : pow (fun i k => (r i k : EReal)) i = fun j => ((Real.exp (∑ k, r i k * r j k) : ℝ) : EReal) := by
      funext j; exact Rows.exp2_dot _ _
    have hneg : ∃ j, ¬ (num v l i = num v l j) ∧ num v l j ≠ 0 := by
      obtain ⟨a, b, va, vb, ab⟩ := two
      simp only [num_eq h w, num_ne h]
      by_cases c : l i = l a
      · exact ⟨b, fun d => ab (c.symm.trans d.2), vb⟩
      · exact ⟨a, fun d => c d.2, va⟩
    have key := Rows.row_eq (fun j => num v l i = num v l j) (fun j => num v l j ≠ 0) (fun j => ∑ k, r i k * r j k)
      (fun j => Rows.abs_dot_le (hn i) (hn j)) ⟨i, rfl⟩ hneg
    rw [pe]
    refine key.trans ?_
    simp only [se]
    have e1 : ∀ j, (num v l i = num v l j) = (v j ∧ l i = l j) := fun j => propext (num_eq h w j)
    have e2 : ∀ j, (¬ (num v l i = num v l j) ∧ num v l j ≠ 0) = (v j ∧ l i ≠ l j) := fun j => by
      rw [num_eq h w, num_ne h]; exact propext (by tauto)
    congr 1
    · unfold Rows.lse
      refine congrArg Ideal.log (Finset.sum_congr rfl fun j _ => congrArg Ideal.exp ?_)
      exact if_congr (iff_of_eq (e1 j)) rfl rfl
    · unfold Rows.lse
      refine congrArg Ideal.log (Finset.sum_congr rfl fun j _ => congrArg Ideal.exp ?_)
      exact if_congr (iff_of_eq (e2 j)) rfl rfl
  · rw [share, if_neg w, if_neg fun c => w ((num_ne h i).1 c)]

end

/-! The rows of the two arguments. -/

variable (X : FVec Ideal ⟨3, ![256, 27, 1024]⟩ .f32) (T : IVec ⟨2, ![256, 27]⟩ 32)

/-- The batch of a flat row. -/
abbrev row (i : Fin 6912) : Fin 256 := ⟨i.val / 27, by omega⟩

/-- The place of a flat row in its batch. -/
abbrev col (i : Fin 6912) : Fin 27 := ⟨i.val % 27, by omega⟩

/-- The label of a flat row. -/
def lab (i : Fin 6912) : BitVec 32 := T (ix2 (row i) (col i))

/-- A flat row is in use. -/
def Valid (i : Fin 6912) : Prop := Labels.Used (fun t => T (ix2 (row i) t)) (col i)

/-- A flat row of the first argument. -/
def inp (i : Fin 6912) (d : Fin 1024) : EReal := X (ix3 (row i) (col i) d)

/-- A flat row divided by its length. -/
def feat (i : Fin 6912) (d : Fin 1024) : EReal := inp X i d * (Rows.len (inp X i))⁻¹

variable {T}

/-- A row in use has a label other than zero, when the first places have. -/
theorem lab_ne (h : ∀ b, T (ix2 b ⟨0, by omega⟩) ≠ 0#32) (i : Fin 6912) (v : Valid T i) : lab T i ≠ 0#32 :=
  v.ne_zero (h _)

/-- The first place of every batch is in use. -/
theorem valid_first (b : Fin 256) : Valid T ⟨27 * b.val, by omega⟩ := by
  obtain ⟨e, he, -⟩ := Labels.end_of_min (fun t => T (ix2 b t))
  have hr : row ⟨27 * b.val, by omega⟩ = b := Fin.ext (by simp)
  have hc : col ⟨27 * b.val, by omega⟩ = ⟨0, by omega⟩ := Fin.ext (by simp)
  unfold Valid
  rw [hr, hc]
  exact Labels.used_zero he

/-- The two losses of the arguments agree when no first place has the label zero and two rows in use have
    different labels. -/
theorem kernel_eq (h : ∀ b, T (ix2 b ⟨0, by omega⟩) ≠ 0#32) (two : ∃ i j, Valid T i ∧ Valid T j ∧ lab T i ≠ lab T j) :
    kernelLoss (Valid T) (lab T) (feat X) = refLoss (Valid T) (lab T) (feat X) :=
  kernel_eq_ref (lab_ne h) (inp X) two

end Cert.Loss

end
-- ==== Proof.Value.Payloads.lean ====
/- The kernel's bodies, read at an index. -/
module

public import proofs.«01_k».proof.Proof.Ideal.Run
public import proofs.«01_k».proof.Proof.Value.Loss

@[expose] public section

set_option maxRecDepth 16384

noncomputable section

namespace Cert.KernelIdeal.Val

open Cert.KernelIdeal Cert.KernelIdeal.Gen Cert.KernelIdeal.Fr Idealize.ShloMosaic Idealize.ShloMosaic.TcCoe Idealize.SL.Sem

/-- The scale of the columns is `1 / log 2`. -/
theorem scale : (Named.named κ "log2e" (φ := .bf16) 0x3FB9#16 : Ideal .bf16) = (((Real.log 2)⁻¹ : ℝ) : EReal) := rfl

open Classical in
/-- The first body's mask says which places are in use. -/
theorem mask_at (T : Vec Ideal S256x27 .i32) (b : Fin 256) (t : Fin 27) :
    k0_pay1 T (ix2 b t) = BitVec.ofBool (decide (Labels.Used (fun t => T (ix2 b t)) t)) := by
  obtain ⟨e, he, h⟩ := Labels.end_of_min (fun t => T (ix2 b t))
  rw [← Labels.used_bit he, ← h]
  pointwise [k0_pay1]
  simp only [Labels.offer_word (fun t => T (ix2 b t))]

open Classical in
/-- The first body's labels: the label's number at a place in use, zero elsewhere. -/
theorem label_at (T : Vec Ideal S256x27 .i32) (b : Fin 256) (t : Fin 27) :
    k0_pay2 T (ix2 b t) = if Labels.Used (fun t => T (ix2 b t)) t then ((((T (ix2 b t) : BitVec 32).toInt : ℝ)) : EReal) else 0 := by
  have : k0_pay2 T (ix2 b t) = (FloatOps.sitofp .f32 (Scalar.select (k0_pay1 T (ix2 b t)) (T (ix2 b t)) 0#32) : Ideal .f32) := by
    pointwise [k0_pay2]
  rw [this, mask_at]
  by_cases h : Labels.Used (fun t => T (ix2 b t)) t
  · rw [if_pos h, decide_eq_true h]; rfl
  · rw [if_neg h, decide_eq_false h]
    have z : (FloatOps.sitofp .f32 (0#32) : Ideal .f32) = (((0#32 : BitVec 32).toInt : ℝ) : EReal) := rfl
    exact z.trans (by simp)

open Classical in
/-- The first body's count of the places in use. -/
theorem count_at (T : Vec Ideal S256x27 .i32) :
    k0_pay3 T (ix2 0 0) = ∑ b : Fin 256, ∑ t : Fin 27, (if Labels.Used (fun t => T (ix2 b t)) t then 1 else 0 : EReal) := by
  have : k0_pay3 T (ix2 0 0) = ∑ b : Fin 256, ∑ t : Fin 27, (FloatOps.sitofp .f32 (BitVec.setWidth 32 (k0_pay1 T (ix2 b t))) : Ideal .f32) := by
    pointwise [k0_pay3]
  rw [this]
  refine Finset.sum_congr rfl fun b _ => Finset.sum_congr rfl fun t _ => ?_
  rw [mask_at]
  have z : ∀ p : Bool, (FloatOps.sitofp .f32 (BitVec.setWidth 32 (BitVec.ofBool p)) : Ideal .f32) = (((BitVec.setWidth 32 (BitVec.ofBool p)).toInt : ℝ) : EReal) := fun _ => rfl
  rw [z]
  by_cases h : Labels.Used (fun t => T (ix2 b t)) t
  · rw [if_pos h, decide_eq_true h]; simp
  · rw [if_neg h, decide_eq_false h]; simp

/-- The second body: a row divided by its length. -/
theorem norm_at (X : Vec Ideal S32x27x1024 .f32) (i : Fin 864) (d : Fin 1024) :
    k1_pay1 X (ix2 i d) = X (ix3 ⟨i.val / 27, by omega⟩ ⟨i.val % 27, by omega⟩ d)
      * (Rows.len fun k => X (ix3 ⟨i.val / 27, by omega⟩ ⟨i.val % 27, by omega⟩ k))⁻¹ := by
  have : k1_pay1 X (ix2 i d) = X (ix3 ⟨i.val / 27, by omega⟩ ⟨i.val % 27, by omega⟩ d)
      * Ideal.div 1 (Rows.len fun k => X (ix3 ⟨i.val / 27, by omega⟩ ⟨i.val % 27, by omega⟩ k)) := by
    pointwise [k1_pay1, Rows.len]
  rw [this, Rows.div_ne (Rows.len_ne _), one_mul]

/-- What one point adds to a positive sum, for one row and one column. -/
def pos (x0 : Vec Ideal S3456x1024 .bf16) (x1 : Vec Ideal S256x1024 .bf16) (x2 : Vec Ideal S3456x256 .f32) (x3 : Vec Ideal S1x256 .f32)
    (i : Fin 3456) (j : Fin 256) : EReal :=
  if x2 (ix2 i j) = x3 (ix2 0 j) then Ideal.div 1 (Ideal.exp2 (∑ k, x0 (ix2 i k) * (x1 (ix2 j k) * (((Real.log 2)⁻¹ : ℝ) : EReal)))) else 0

/-- What one point adds to a negative sum, for one row and one column. -/
def neg (x0 : Vec Ideal S3456x1024 .bf16) (x1 : Vec Ideal S256x1024 .bf16) (x2 : Vec Ideal S3456x256 .f32) (x3 : Vec Ideal S1x256 .f32)
    (i : Fin 3456) (j : Fin 256) : EReal :=
  (if x2 (ix2 i j) = x3 (ix2 0 j) then 0 else Ideal.exp2 (∑ k, x0 (ix2 i k) * (x1 (ix2 j k) * (((Real.log 2)⁻¹ : ℝ) : EReal))))
    * (if x3 (ix2 0 j) ≠ 0 then 1 else 0)

/-- A point's step of the positive sums: two columns per lane. -/
theorem stepP_at (x0 : Vec Ideal S3456x1024 .bf16) (x1 : Vec Ideal S256x1024 .bf16) (x2 : Vec Ideal S3456x256 .f32) (x3 : Vec Ideal S1x256 .f32) (s : Vec Ideal S3456x128 .f32) (i : Fin 3456) (l : Fin 128) :
    stepP x0 x1 x2 x3 s (ix2 i l) = s (ix2 i l) + (pos x0 x1 x2 x3 i ⟨l.val, by omega⟩ + pos x0 x1 x2 x3 i ⟨128 + l.val, by omega⟩) := by
  pointwise [stepP, k2_pay1, k2_pay10, k2_pay8, k2_pay7, k2_pay6]
  rw [scale]
  rfl

/-- A point's step of the negative sums: two columns per lane. -/
theorem stepN_at (x0 : Vec Ideal S3456x1024 .bf16) (x1 : Vec Ideal S256x1024 .bf16) (x2 : Vec Ideal S3456x256 .f32) (x3 : Vec Ideal S1x256 .f32) (s : Vec Ideal S3456x128 .f32) (i : Fin 3456) (l : Fin 128) :
    stepN x0 x1 x2 x3 s (ix2 i l) = s (ix2 i l) + (neg x0 x1 x2 x3 i ⟨l.val, by omega⟩ + neg x0 x1 x2 x3 i ⟨128 + l.val, by omega⟩) := by
  pointwise [stepN, k2_pay2, k2_pay9, k2_pay8, k2_pay7, k2_pay6]
  rw [scale]
  rfl

/-- Both sums start from zero. -/
theorem zeroP_at (i : Fin 3456) (l : Fin 128) : (zero2 (F := Ideal)).1 (ix2 i l) = (0 : EReal) := by
  pointwise [zero2, k2_pay4]

/-- The second running sum starts at zero. -/
theorem zeroN_at (i : Fin 3456) (l : Fin 128) : (zero2 (F := Ideal)).2 (ix2 i l) = (0 : EReal) := by
  pointwise [zero2, k2_pay5]

/-- What a row block's last point writes: the sum of its rows' shares. -/
theorem outV_at (sp sn : Vec Ideal S3456x128 .f32) (x2 : Vec Ideal S3456x256 .f32) (l : Fin 128) :
    outV sp sn x2 (ix3 0 0 l) = ∑ i : Fin 3456,
      if x2 (ix2 i 0) ≠ 0 then Rows.soft (Rows.karg (∑ l : Fin 128, sp (ix2 i l)) (∑ l : Fin 128, sn (ix2 i l))) else 0 := by
  have a : ∀ z : Ideal .f32, FloatOps.absf z = (max z (-z) : EReal) := fun _ => rfl
  pointwise [outV, k2_pay3]
  simp only [Finset.univ_unique, Finset.sum_singleton, ne_eq, not_true_eq_false, if_false, a, zero_sub]
  rfl

/-- The last body: the sum of the row blocks' shares divided by the count. -/
theorem final_at (x0 : Vec Ideal S2x1x128 .f32) (x1 : Vec Ideal S1x1 .f32) :
    k3_pay1 (View.ld x0 r3_0) (View.ld x1 r3_1) (ix2 0 0) = Ideal.div (∑ b : Fin 2, x0 (ix3 b 0 0)) (x1 (ix2 0 0)) := by
  pointwise [k3_pay1]
  rw [Ideal.reduceAdd_total _ (by decide), sum_idx4]
  pointwise []
  simp only [Finset.univ_unique, Finset.sum_singleton]

end Cert.KernelIdeal.Val

end
-- ==== Proof.Value.CallsA.lean ====
/- What the kernel's calls leave in their result arrays. -/
module

public import proofs.«01_k».proof.Proof.Ideal.Run
public import proofs.«01_k».proof.Proof.Value.Payloads
public import Idealize.ShloMosaic.Lib.Pipeline.ValueKit

@[expose] public section

set_option maxRecDepth 16384

noncomputable section

namespace Cert.KernelIdeal.Val

open Cert.KernelIdeal Cert.KernelIdeal.Gen Cert.KernelIdeal.Fr Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Each window of the first call is at the origin. -/
theorem idx0 : ∀ t : Fin cfg0.N, win0_0.index t = ![0, 0] ∧ win0_1.index t = ![0, 0] ∧ win0_2.index t = ![0, 0] :=
  (by decide +kernel : ∀ t : Fin grid0.N, _)

/-- The first call leaves its labels. -/
theorem q_final (c : Dev nD) : (dat0 V c).arrAt 1 cfg0.N = k0_pay2 (V c main_arg1) := by
  refine (dat0 V c).arrAt_eq_of_after_last 1 t0_0 (by decide +kernel) _ fun j => ?_
  blk_simp
  rw [after0_1]
  unfold out0_1
  frame_out
  blk_point [iblk0, idx0 t0_0]

/-- The first call leaves the count of the labels in use. -/
theorem nv_final (c : Dev nD) : (dat0 V c).arrAt 2 cfg0.N = k0_pay3 (V c main_arg1) := by
  refine (dat0 V c).arrAt_eq_of_after_last 2 t0_0 (by decide +kernel) _ fun j => ?_
  blk_simp
  rw [after0_2]
  unfold out0_2
  frame_out
  blk_point [iblk0, idx0 t0_0]

/-- At step `t` the second call reads the `t`-th block of samples and writes the `t`-th block of rows. -/
theorem idx1 : ∀ t : Fin cfg1.N, win1_0.index t = ![t.val, 0, 0] ∧ win1_1.index t = ![t.val, 0] :=
  (by decide +kernel : ∀ t : Fin grid1.N, _)

/-- The second call leaves the rows divided by their lengths. -/
theorem feat_final (c : Dev nD) : (dat1 V c).arrAt 1 cfg1.N = fun y : S6912x1024.Idx => Loss.feat (V c main_arg0) (y 0) (y 1) := by
  refine (dat1 V c).arrAt_eq_of_covers 1 _ (by decide +kernel) fun t _ y => ?_
  blk_simp
  rw [after1_1]
  unfold out1_1
  frame_out
  idx_vars y
  have ht : t.val < 8 := t.isLt
  have at_row : ∀ (i : Fin 6912) (d : Fin 1024), i.val = 864 * t.val + y0.val → d = y1 →
      k1_pay1 (iblk1 V c 0 t) (ix2 y0 y1) = Loss.feat (V c main_arg0) i d := fun i d hi hd => by
    subst hd
    have read : ∀ k : Fin 1024, (iblk1 V c 0 t : Vec Ideal S32x27x1024 .f32) (ix3 ⟨y0.val / 27, by omega⟩ ⟨y0.val % 27, by omega⟩ k) = Loss.inp (V c main_arg0) i k := fun k => by
      unfold Loss.inp
      blk_ext [iblk1, idx1 t]
      all_goals omega
    rw [norm_at, Loss.feat]
    simp only [read]
  refine at_row _ _ ?_ (Fin.ext ?_)
  · blk_simp [idx1 t]
    omega
  · blk_simp [idx1 t]

/-- Each window of the last call is at the origin. -/
theorem idx3 : ∀ t : Fin cfg3.N, win3_0.index t = ![0, 0, 0] ∧ win3_1.index t = ![0, 0] ∧ win3_2.index t = ![0, 0] :=
  (by decide +kernel : ∀ t : Fin grid3.N, _)

/-- The last call leaves the sum of the shares over the count. -/
theorem out_final (c : Dev nD) : (dat3 V c).arrAt 2 cfg3.N = k3_pay1 (View.ld (V c main_call0_v6) r3_0) (View.ld (V c main_call0_v0_1) r3_1) := by
  refine (dat3 V c).arrAt_eq_of_after_last 2 t3_0 (by decide +kernel) _ fun j => ?_
  blk_simp
  rw [after3_2]
  unfold out3_2
  frame_out
  blk_point [iblk3, idx3 t3_0]

end Cert.KernelIdeal.Val

end
-- ==== Proof.Value.CallsB.lean ====
/- What the kernel's third call leaves in its result array: per block of rows, the sum of the rows' shares. -/
module

public import proofs.«01_k».proof.Proof.Ideal.Run
public import proofs.«01_k».proof.Proof.Value.Payloads
public import Idealize.ShloMosaic.Lib.Pipeline.ValueKit

@[expose] public section

set_option maxRecDepth 16384

noncomputable section

namespace Cert.KernelIdeal.Val

open Cert.KernelIdeal Cert.KernelIdeal.Gen Cert.KernelIdeal.Fr Idealize.ShloMosaic Idealize.ShloMosaic.TcCoe Idealize.SL.Sem
open Idealize.ShloMosaic.Pipeline (Dat)

/-- A sum over all columns as the kernel takes it: over lanes, points and the two halves of a block. -/
theorem sum_lanes (G : Fin 6912 → EReal) :
    ∑ l : Fin 128, ∑ s : Fin 27, (G ⟨256 * s.val + l.val, by omega⟩ + G ⟨256 * s.val + (128 + l.val), by omega⟩) = ∑ j, G j := by
  rw [Finset.sum_comm]
  refine Eq.trans ?_ (Fin.sum_mul_add_fin 27 256 G)
  refine Finset.sum_congr rfl fun s _ => ?_
  rw [Finset.sum_add_distrib]
  refine Eq.trans ?_ (Fin.sum_univ_add (a := 128) (b := 128) fun k : Fin 256 => G ⟨s.val * 256 + k.val, by omega⟩).symm
  refine congrArg₂ (· + ·) (Finset.sum_congr rfl fun l _ => ?_) (Finset.sum_congr rfl fun l _ => ?_)
  · refine congrArg G (Fin.ext ?_)
    simp only [Fin.val_castAdd]
    omega
  · refine congrArg G (Fin.ext ?_)
    simp only [Fin.val_natAdd]
    omega

variable (V : (c : Dev nD) → (b : Ref sig .tc) → Buf (Elt Ideal) ((c : Thread nD τ).loc b))

/-- The third call takes its row block from the step's quotient by 27 and its column block from the remainder. -/
theorem idx2 : ∀ t : Fin cfg2.N, win2_0.index t = ![t.val / 27, 0] ∧ win2_1.index t = ![t.val % 27, 0] ∧ win2_2.index t = ![t.val / 27, 0]
    ∧ win2_3.index t = ![0, t.val % 27] ∧ win2_4.index t = ![t.val / 27, 0, 0] :=
  (by decide +kernel : ∀ t : Fin grid2.N, _)

section
variable {V} {c : Dev nD} {q : Fin 6912 → EReal} {f : Fin 6912 → Fin 1024 → EReal}
  (hr : ∀ i l, (V c main_call0_v3 : Vec Ideal S6912x256 .f32) (ix2 i l) = q i) (hc : ∀ j, (V c main_call0_v4 : Vec Ideal S1x6912 .f32) (ix2 0 j) = q j)
  (hf : ∀ i d, (V c main_call0_v5 : Vec Ideal S6912x1024 .bf16) (ix2 i d) = f i d)

/-- The row of the arrays that row `r` of point `t`'s block is. -/
abbrev rowOf (t : Fin cfg2.N) (r : Fin 3456) : Fin 6912 := ⟨3456 * (t.val / 27) + r.val, by have : t.val < 54 := t.isLt; omega⟩

/-- The column of the arrays that column `m` of point `t`'s block is. -/
abbrev colOf (t : Fin cfg2.N) (m : Fin 256) : Fin 6912 := ⟨256 * (t.val % 27) + m.val, by omega⟩

include hf in
/-- The left operand at a step: rows of the step's row block. -/
theorem rows_read (t : Fin cfg2.N) (r : Fin 3456) (k : Fin 1024) : (iblk2 V c 0 t : Vec Ideal S3456x1024 .bf16) (ix2 r k) = f (rowOf t r) k := by
  rw [← hf]
  blk_ext [iblk2, idx2 t]

include hf in
/-- The right operand at a step: rows of the step's column block. -/
theorem cols_read (t : Fin cfg2.N) (m : Fin 256) (k : Fin 1024) : (iblk2 V c 1 t : Vec Ideal S256x1024 .bf16) (ix2 m k) = f (colOf t m) k := by
  rw [← hf]
  blk_ext [iblk2, idx2 t]

include hr in
/-- The numbers of the step's row block, the same in every lane. -/
theorem rlab_read (t : Fin cfg2.N) (r : Fin 3456) (l : Fin 256) : (iblk2 V c 2 t : Vec Ideal S3456x256 .f32) (ix2 r l) = q (rowOf t r) := by
  rw [← hr _ l]
  blk_ext [iblk2, idx2 t]

include hc in
/-- The numbers of the step's column block. -/
theorem clab_read (t : Fin cfg2.N) (m : Fin 256) : (iblk2 V c 3 t : Vec Ideal S1x256 .f32) (ix2 0 m) = q (colOf t m) := by
  rw [← hc]
  blk_ext [iblk2, idx2 t]

include hr hc hf

/-- What a point adds to the positive sums is the term of the pair of rows. -/
theorem pos_eq (t : Fin cfg2.N) (r : Fin 3456) (m : Fin 256) :
    pos (iblk2 V c 0 t) (iblk2 V c 1 t) (iblk2 V c 2 t) (iblk2 V c 3 t) r m = Loss.posTerm q f (rowOf t r) (colOf t m) := by
  unfold pos Loss.posTerm Loss.pow
  rw [rlab_read hr, clab_read hc]
  simp only [rows_read hf, cols_read hf]

/-- What a point adds to the negative sums is the term of the pair of rows. -/
theorem neg_eq (t : Fin cfg2.N) (r : Fin 3456) (m : Fin 256) :
    neg (iblk2 V c 0 t) (iblk2 V c 1 t) (iblk2 V c 2 t) (iblk2 V c 3 t) r m = Loss.negTerm q f (rowOf t r) (colOf t m) := by
  unfold neg Loss.negTerm Loss.pow
  rw [rlab_read hr, clab_read hc]
  simp only [rows_read hf, cols_read hf]

/-- At the last point of a row block the positive sums' lanes hold the terms of all columns. -/
theorem accP_eq (t : Fin cfg2.N) (ht : t.val % 27 = 26) (r : Fin 3456) :
    ∑ l : Fin 128, (acc2 V c t.val t.isLt).1 (ix2 r l) = ∑ j, Loss.posTerm q f (rowOf t r) j := by
  rw [← sum_lanes]
  refine Finset.sum_congr rfl fun l _ => ?_
  refine (Pipeline.eq_sum_fin_of_reset_step_of_flush (M := EReal) (fun n h => (acc2 V c n h).1 (ix2 r l)) 27 0
    (fun t => pos (iblk2 V c 0 t) (iblk2 V c 1 t) (iblk2 V c 2 t) (iblk2 V c 3 t) r ⟨l.val, by omega⟩
      + pos (iblk2 V c 0 t) (iblk2 V c 1 t) (iblk2 V c 2 t) (iblk2 V c 3 t) r ⟨128 + l.val, by omega⟩)
    (fun t h => ?_) (fun t h => ?_) t ht).trans ?_
  · simp only [acc2_first V c t h, step2]
    rw [stepP_at, zeroP_at]
  · simp only [acc2_next V c t h, step2]
    rw [stepP_at]
  · rw [zero_add]
    refine Finset.sum_congr rfl fun s _ => ?_
    simp only [pos_eq hr hc hf]
    have h1 : (27 * (t.val / 27) + s.val) / 27 = t.val / 27 := by omega
    have h2 : (27 * (t.val / 27) + s.val) % 27 = s.val := by omega
    simp only [rowOf, colOf, h1, h2]

/-- At the last point of a row block the negative sums' lanes hold the terms of all columns. -/
theorem accN_eq (t : Fin cfg2.N) (ht : t.val % 27 = 26) (r : Fin 3456) :
    ∑ l : Fin 128, (acc2 V c t.val t.isLt).2 (ix2 r l) = ∑ j, Loss.negTerm q f (rowOf t r) j := by
  rw [← sum_lanes]
  refine Finset.sum_congr rfl fun l _ => ?_
  refine (Pipeline.eq_sum_fin_of_reset_step_of_flush (M := EReal) (fun n h => (acc2 V c n h).2 (ix2 r l)) 27 0
    (fun t => neg (iblk2 V c 0 t) (iblk2 V c 1 t) (iblk2 V c 2 t) (iblk2 V c 3 t) r ⟨l.val, by omega⟩
      + neg (iblk2 V c 0 t) (iblk2 V c 1 t) (iblk2 V c 2 t) (iblk2 V c 3 t) r ⟨128 + l.val, by omega⟩)
    (fun t h => ?_) (fun t h => ?_) t ht).trans ?_
  · simp only [acc2_first V c t h, step2]
    rw [stepN_at, zeroN_at]
  · simp only [acc2_next V c t h, step2]
    rw [stepN_at]
  · rw [zero_add]
    refine Finset.sum_congr rfl fun s _ => ?_
    simp only [neg_eq hr hc hf]
    have h1 : (27 * (t.val / 27) + s.val) / 27 = t.val / 27 := by omega
    have h2 : (27 * (t.val / 27) + s.val) % 27 = s.val := by omega
    simp only [rowOf, colOf, h1, h2]

/-- The third call leaves, per block of rows, the sum of the rows' shares in every lane. -/
theorem parts_final : (dat2 V c).arrAt 4 cfg2.N = fun y : S2x1x128.Idx =>
    ∑ r : Fin 3456, Loss.share q f ⟨3456 * (y 0).val + r.val, by have : (y 0).val < 2 := (y 0).isLt; omega⟩ := by
  refine (dat2 V c).arrAt_eq_of_covers 4 _ (by decide +kernel) fun t hfl y => ?_
  have ht : t.val % 27 = 26 := (flush2_4 t).mp hfl
  blk_simp
  rw [after2_4]
  idx_vars y
  obtain rfl : y0 = 0 := Subsingleton.elim _ _
  obtain rfl : y1 = 0 := Subsingleton.elim _ _
  have hi : win2_4.index t 0 = t.val / 27 := by rw [(idx2 t).2.2.2.2]; rfl
  have out : outV (acc2 V c t.val t.isLt).1 (acc2 V c t.val t.isLt).2 (iblk2 V c 2 t) (ix3 0 0 y2) = (∑ r, Loss.share q f (rowOf t r) : EReal) := by
    rw [outV_at]
    refine Finset.sum_congr rfl fun r _ => ?_
    rw [rlab_read hr, accP_eq hr hc hf t ht, accN_eq hr hc hf t ht, Loss.share_eq]
  refine out.trans (congrArg (fun g : Fin 3456 → Fin 6912 => (∑ r, Loss.share q f (g r) : EReal)) (funext fun r => Fin.ext ?_))
  show 3456 * (t.val / 27) + r.val = 3456 * win2_4.index t 0 + r.val
  rw [hi]

end

end Cert.KernelIdeal.Val

end
-- ==== Proof.Value.Kernel.lean ====
/- The kernel's result is the loss as it adds it. -/
module

public import proofs.«01_k».proof.Proof.Value.CallsA
public import proofs.«01_k».proof.Proof.Value.CallsB

@[expose] public section

set_option maxRecDepth 16384

noncomputable section

namespace Cert.KernelIdeal.Val

open Cert.KernelIdeal Cert.KernelIdeal.Gen Cert.KernelIdeal.Fr Idealize.ShloMosaic Idealize.ShloMosaic.TcCoe Idealize.SL.Sem

variable (m : (ℓ : Loc nD τ sig) → Buf (Elt Ideal) ℓ) (ρ : Dev nD → PrngReg) (c : Dev nD)

/-- The first argument. -/
abbrev argX : FVec Ideal S256x27x1024 .f32 := m ((c.tc : Thread nD τ).loc main_arg0)

/-- The second argument. -/
abbrev argT : IVec S256x27 32 := m ((c.tc : Thread nD τ).loc main_arg1)

/-- The labels' numbers after the first call. -/
theorem at_q : (W1 m ρ c main_call0_v0_0 : FVec Ideal S256x27 .f32) = k0_pay2 (F := Ideal) (argT m c) :=
  (W1_arr m ρ c 1).trans (q_final (V0 m ρ) c)

/-- The count after the first call. -/
theorem at_nv : (W4 m ρ c main_call0_v0_1 : FVec Ideal S1x1 .f32) = k0_pay3 (F := Ideal) (argT m c) :=
  (W4_of m ρ c main_call0_v0_1 (by decide +kernel)).trans
    ((W3_of m ρ c main_call0_v0_1 (by decide +kernel)).trans
      ((W2_of m ρ c main_call0_v0_1 (by decide +kernel)).trans
        ((W1_arr m ρ c 2).trans (nv_final (V0 m ρ) c))))

/-- The rows' numbers are the labels' numbers, one row of copies each. -/
theorem host_rows : (W2 m ρ c main_call0_v3 : FVec Ideal S6912x256 .f32) =
    broadcastInDim S6912x256 ![0, 1] bcast_S6912x1_S6912x256_0_1 (broadcastInDim S6912x1 ![0] bcast_S6912_S6912x1_0
      (shapeCast S6912 (W1 m ρ c main_call0_v0_0 : FVec Ideal S256x27 .f32) shapeCasts_S256x27_S6912)) := rfl

/-- The columns' numbers are the labels' numbers in one row. -/
theorem host_cols : (W2 m ρ c main_call0_v4 : FVec Ideal S1x6912 .f32) =
    shapeCast S1x6912 (shapeCast S6912 (W1 m ρ c main_call0_v0_0 : FVec Ideal S256x27 .f32) shapeCasts_S256x27_S6912) shapeCasts_S6912_S1x6912 := rfl

/-- A label's number, at its flat row. -/
theorem num_at (i : Fin 6912) : k0_pay2 (F := Ideal) (argT m c) (ix2 (Loss.row i) (Loss.col i)) = Loss.num (Loss.Valid (argT m c)) (Loss.lab (argT m c)) i :=
  label_at (argT m c) (Loss.row i) (Loss.col i)

/-- The third call finds the rows' numbers. -/
theorem rows_in (i : Fin 6912) (l : Fin 256) : (V3 m ρ c main_call0_v3 : Vec Ideal S6912x256 .f32) (ix2 i l) = Loss.num (Loss.Valid (argT m c)) (Loss.lab (argT m c)) i := by
  have e : (V3 m ρ c main_call0_v3 : Vec Ideal S6912x256 .f32) = W2 m ρ c main_call0_v3 := W3_of m ρ c main_call0_v3 (by decide +kernel)
  rw [e, host_rows, at_q, ← num_at]
  pointwise []

/-- The third call finds the columns' numbers. -/
theorem cols_in (j : Fin 6912) : (V3 m ρ c main_call0_v4 : Vec Ideal S1x6912 .f32) (ix2 0 j) = Loss.num (Loss.Valid (argT m c)) (Loss.lab (argT m c)) j := by
  have e : (V3 m ρ c main_call0_v4 : Vec Ideal S1x6912 .f32) = W2 m ρ c main_call0_v4 := W3_of m ρ c main_call0_v4 (by decide +kernel)
  rw [e, host_cols, at_q, ← num_at]
  pointwise []

/-- The third call finds the rows divided by their lengths. -/
theorem feat_in (i : Fin 6912) (d : Fin 1024) : (V3 m ρ c main_call0_v5 : Vec Ideal S6912x1024 .bf16) (ix2 i d) = Loss.feat (argX m c) i d := by
  have e : (V3 m ρ c main_call0_v5 : Vec Ideal S6912x1024 .bf16) = (dat1 (V2 m ρ) c).arrAt 1 cfg1.N := W3_arr m ρ c 1
  have x : (V2 m ρ c main_arg0 : FVec Ideal S256x27x1024 .f32) = argX m c := W2_args m ρ c main_arg0 (by decide)
  rw [e, feat_final, x]
  rfl

/-- The last call finds the row blocks' shares. -/
theorem parts_in (b : Fin 2) : (V4 m ρ c main_call0_v6 : Vec Ideal S2x1x128 .f32) (ix3 b 0 0) =
    ∑ r : Fin 3456, Loss.share (Loss.num (Loss.Valid (argT m c)) (Loss.lab (argT m c))) (Loss.feat (argX m c)) ⟨3456 * b.val + r.val, by omega⟩ := by
  have e : (V4 m ρ c main_call0_v6 : Vec Ideal S2x1x128 .f32) = (dat2 (V3 m ρ) c).arrAt 4 cfg2.N := W4_arr m ρ c 4
  rw [e, parts_final (rows_in m ρ c) (cols_in m ρ c) (feat_in m ρ c)]
  rfl

open Classical in
/-- The count, over flat rows. -/
theorem count_eq (T : IVec S256x27 32) : k0_pay3 (F := Ideal) T (ix2 0 0) = Loss.count (Loss.Valid T) := by
  rw [count_at, Loss.count]
  refine Eq.trans ?_ (Fin.sum_mul_add_fin 256 27 fun i : Fin 6912 => (if Loss.Valid T i then 1 else 0 : EReal))
  refine Finset.sum_congr rfl fun b _ => Finset.sum_congr rfl fun t _ => ?_
  refine if_congr ?_ rfl rfl
  have hr : Loss.row ⟨b.val * 27 + t.val, by omega⟩ = b := Fin.ext (by show (b.val * 27 + t.val) / 27 = b.val; omega)
  have hc : Loss.col ⟨b.val * 27 + t.val, by omega⟩ = t := Fin.ext (by show (b.val * 27 + t.val) % 27 = t.val; omega)
  unfold Loss.Valid
  rw [hr, hc]

/-- The kernel's result is the loss as it adds it. -/
theorem result_at : (W6 m ρ c main_v0 : FVec Ideal S_ .f32) ix0 = Loss.kernelLoss (Loss.Valid (argT m c)) (Loss.lab (argT m c)) (Loss.feat (argX m c)) := by
  have h : (W6 m ρ c main_v0 : FVec Ideal S_ .f32) = shapeCast S_ (W5 m ρ c main_call0_v7 : FVec Ideal S1x1 .f32) shapeCasts_S1x1_S_ := rfl
  have e : (W5 m ρ c main_call0_v7 : FVec Ideal S1x1 .f32) = (dat3 (V4 m ρ) c).arrAt 2 cfg3.N := W5_arr m ρ c 2
  have n : (V4 m ρ c main_call0_v0_1 : FVec Ideal S1x1 .f32) = k0_pay3 (F := Ideal) (argT m c) := at_nv m ρ c
  have s : (shapeCast S_ (W5 m ρ c main_call0_v7 : FVec Ideal S1x1 .f32) shapeCasts_S1x1_S_ : FVec Ideal S_ .f32) ix0 = (W5 m ρ c main_call0_v7 : FVec Ideal S1x1 .f32) (ix2 0 0) := by
    pointwise []
  rw [h, s, e, out_final, final_at, n, count_eq, Loss.kernelLoss]
  refine congrArg (fun s => Ideal.div s _) ?_
  refine Eq.trans ?_ (Fin.sum_mul_add_fin 2 3456 fun i : Fin 6912 => Loss.share (Loss.num (Loss.Valid (argT m c)) (Loss.lab (argT m c))) (Loss.feat (argX m c)) i)
  refine Finset.sum_congr rfl fun b _ => ?_
  rw [parts_in]
  refine Finset.sum_congr rfl fun r _ => congrArg _ (Fin.ext ?_)
  show 3456 * b.val + r.val = b.val * 3456 + r.val
  omega

end Cert.KernelIdeal.Val

end
-- ==== Proof.Reference.Run.lean ====
module

public import proofs.«01_k».proof.Proof.Gen.ReferenceIdeal
public import Idealize.ShloMosaic.Lib.StableHlo.Run
public import Idealize.ShloMosaic.Lib.Quiescent

@[expose] public section

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]

/-- All operations of the reference, in order. -/
abbrev ops : List (HloOp τ sig (Elt F)) :=
  [ unary main_arg1 main_v0 ((extractStridedSlice S256x26 ![0, 1] · slices_S256x27_S256x26_0_1) : (⟨S256x27, .i32⟩ : BufTy).Contents (Elt F) → (⟨S256x26, .i32⟩ : BufTy).Contents (Elt F)),
    nullary main_c (constantI S_ 32 0#32),
    unary main_c main_v1 (broadcastInDim S256x26 ![] bcast_S_S256x26 : (⟨S_, .i32⟩ : BufTy).Contents (Elt F) → (⟨S256x26, .i32⟩ : BufTy).Contents (Elt F)),
    binary main_v0 main_v1 main_v2 (cmpi .eq : (⟨S256x26, .i32⟩ : BufTy).Contents (Elt F) → (⟨S256x26, .i32⟩ : BufTy).Contents (Elt F) → (⟨S256x26, .i1⟩ : BufTy).Contents (Elt F)),
    TRef.nullary (TRef.of (T := ⟨S256x26, .i32⟩) main_call0_v0) (iotaInDim S256x26 32 1),
    TRef.nullary (TRef.of (T := ⟨S_, .i1⟩) main_call0_c) (constantI S_ 1 0#1),
    TRef.nullary (TRef.of (T := ⟨S_, .i32⟩) main_call0_c_0) (constantI S_ 32 0#32),
    TRef.quaternary (TRef.of (T := ⟨S256x26, .i1⟩) main_v2) (TRef.of (T := ⟨S256x26, .i32⟩) main_call0_v0) (TRef.of (T := ⟨S_, .i1⟩) main_call0_c) (TRef.of (T := ⟨S_, .i32⟩) main_call0_c_0) (TRef.of (T := ⟨S256, .i1⟩) main_call0_v1_0) (fun x y u v j => (Host.reduce2 reducer_argmax_i1_i32 x y u v reducesTo_S256x26_S256_d1 h_S_ j).1),
    TRef.quaternary (TRef.of (T := ⟨S256x26, .i1⟩) main_v2) (TRef.of (T := ⟨S256x26, .i32⟩) main_call0_v0) (TRef.of (T := ⟨S_, .i1⟩) main_call0_c) (TRef.of (T := ⟨S_, .i32⟩) main_call0_c_0) (TRef.of (T := ⟨S256, .i32⟩) main_v3) (fun x y u v j => (Host.reduce2 reducer_argmax_i1_i32 x y u v reducesTo_S256x26_S256_d1 h_S_ j).2),
    nullary main_c_0 (constantI S_ 32 1#32),
    unary main_c_0 main_v4 (broadcastInDim S256 ![] bcast_S_S256 : (⟨S_, .i32⟩ : BufTy).Contents (Elt F) → (⟨S256, .i32⟩ : BufTy).Contents (Elt F)),
    binary main_v3 main_v4 main_v5 (addi : (⟨S256, .i32⟩ : BufTy).Contents (Elt F) → (⟨S256, .i32⟩ : BufTy).Contents (Elt F) → (⟨S256, .i32⟩ : BufTy).Contents (Elt F)),
    nullary main_v6 (iotaInDim S27 32 0),
    unary main_v6 main_v7 (broadcastInDim S1x27 ![1] bcast_S27_S1x27_1 : (⟨S27, .i32⟩ : BufTy).Contents (Elt F) → (⟨S1x27, .i32⟩ : BufTy).Contents (Elt F)),
    unary main_v5 main_v8 (broadcastInDim S256x1 ![0] bcast_S256_S256x1_0 : (⟨S256, .i32⟩ : BufTy).Contents (Elt F) → (⟨S256x1, .i32⟩ : BufTy).Contents (Elt F)),
    unary main_v7 main_v9 (broadcastInDim S256x27 ![0, 1] bcast_S1x27_S256x27_0_1 : (⟨S1x27, .i32⟩ : BufTy).Contents (Elt F) → (⟨S256x27, .i32⟩ : BufTy).Contents (Elt F)),
    unary main_v8 main_v10 (broadcastInDim S256x27 ![0, 1] bcast_S256x1_S256x27_0_1 : (⟨S256x1, .i32⟩ : BufTy).Contents (Elt F) → (⟨S256x27, .i32⟩ : BufTy).Contents (Elt F)),
    binary main_v9 main_v10 main_v11 (cmpi .slt : (⟨S256x27, .i32⟩ : BufTy).Contents (Elt F) → (⟨S256x27, .i32⟩ : BufTy).Contents (Elt F) → (⟨S256x27, .i1⟩ : BufTy).Contents (Elt F)),
    reshape main_v11 main_v12 (rfl : (.i1 : EltTy) = .i1) shapeCasts_S256x27_S6912,
    reshape main_arg0 main_v13 (rfl : (.f32 : EltTy) = .f32) shapeCasts_S256x27x1024_S6912x1024,
    TRef.binary (TRef.of (T := ⟨S6912x1024, .f32⟩) main_v13) (TRef.of (T := ⟨S6912x1024, .f32⟩) main_v13) (TRef.of (T := ⟨S6912x1024, .f32⟩) main_call1_v0) mulf,
    TRef.nullary (TRef.of (T := ⟨S_, .f32⟩) main_call1_cst) (constant S_ .f32 0x00000000#32),
    TRef.binary (TRef.of (T := ⟨S6912x1024, .f32⟩) main_call1_v0) (TRef.of (T := ⟨S_, .f32⟩) main_call1_cst) (TRef.of (T := ⟨S6912, .f32⟩) main_call1_v1) (fun x v => Host.reduceAdd x v reducesTo_S6912x1024_S6912_d1 h_S_),
    TRef.unary (TRef.of (T := ⟨S6912, .f32⟩) main_call1_v1) (TRef.of (T := ⟨S6912x1, .f32⟩) main_call1_v2) (broadcastInDim S6912x1 ![0] bcast_S6912_S6912x1_0),
    TRef.unary (TRef.of (T := ⟨S6912x1, .f32⟩) main_call1_v2) (TRef.of (T := ⟨S6912x1, .f32⟩) main_v14) Host.sqrt,
    nullary main_cst (constant S_ .f32 0x2B8CBCCC#32),
    TRef.unary (TRef.of (T := ⟨S_, .f32⟩) main_cst) (TRef.of (T := ⟨S_, .f32⟩) main_call2_v0) id,
    TRef.unary (TRef.of (T := ⟨S_, .f32⟩) main_call2_v0) (TRef.of (T := ⟨S6912x1, .f32⟩) main_call2_v1) (broadcastInDim S6912x1 ![] bcast_S_S6912x1),
    TRef.binary (TRef.of (T := ⟨S6912x1, .f32⟩) main_call2_v1) (TRef.of (T := ⟨S6912x1, .f32⟩) main_v14) (TRef.of (T := ⟨S6912x1, .f32⟩) main_v15) maximumf,
    unary main_v15 main_v16 (broadcastInDim S6912x1024 ![0, 1] bcast_S6912x1_S6912x1024_0_1 : (⟨S6912x1, .f32⟩ : BufTy).Contents (Elt F) → (⟨S6912x1024, .f32⟩ : BufTy).Contents (Elt F)),
    binary main_v13 main_v16 main_v17 (Host.divf : (⟨S6912x1024, .f32⟩ : BufTy).Contents (Elt F) → (⟨S6912x1024, .f32⟩ : BufTy).Contents (Elt F) → (⟨S6912x1024, .f32⟩ : BufTy).Contents (Elt F)),
    unary main_v17 main_v18 ((transpose S1024x6912 [1, 0] · transposes_S6912x1024_S1024x6912_1_0) : (⟨S6912x1024, .f32⟩ : BufTy).Contents (Elt F) → (⟨S1024x6912, .f32⟩ : BufTy).Contents (Elt F)),
    binary main_v17 main_v18 main_v19 ((fun l r => Host.dotGeneral dot_S6912x1024_S1024x6912_S6912x6912_1_0_0_1_n_n none l r) : (⟨S6912x1024, .f32⟩ : BufTy).Contents (Elt F) → (⟨S1024x6912, .f32⟩ : BufTy).Contents (Elt F) → (⟨S6912x6912, .f32⟩ : BufTy).Contents (Elt F)),
    reshape main_arg1 main_v20 (rfl : (.i32 : EltTy) = .i32) shapeCasts_S256x27_S6912,
    unary main_v20 main_v21 (broadcastInDim S6912x1 ![0] bcast_S6912_S6912x1_0 : (⟨S6912, .i32⟩ : BufTy).Contents (Elt F) → (⟨S6912x1, .i32⟩ : BufTy).Contents (Elt F)),
    unary main_v20 main_v22 (broadcastInDim S1x6912 ![1] bcast_S6912_S1x6912_1 : (⟨S6912, .i32⟩ : BufTy).Contents (Elt F) → (⟨S1x6912, .i32⟩ : BufTy).Contents (Elt F)),
    unary main_v21 main_v23 (broadcastInDim S6912x6912 ![0, 1] bcast_S6912x1_S6912x6912_0_1 : (⟨S6912x1, .i32⟩ : BufTy).Contents (Elt F) → (⟨S6912x6912, .i32⟩ : BufTy).Contents (Elt F)),
    unary main_v22 main_v24 (broadcastInDim S6912x6912 ![0, 1] bcast_S1x6912_S6912x6912_0_1 : (⟨S1x6912, .i32⟩ : BufTy).Contents (Elt F) → (⟨S6912x6912, .i32⟩ : BufTy).Contents (Elt F)),
    binary main_v23 main_v24 main_v25 (cmpi .eq : (⟨S6912x6912, .i32⟩ : BufTy).Contents (Elt F) → (⟨S6912x6912, .i32⟩ : BufTy).Contents (Elt F) → (⟨S6912x6912, .i1⟩ : BufTy).Contents (Elt F)),
    unary main_v12 main_v26 (broadcastInDim S6912x1 ![0] bcast_S6912_S6912x1_0 : (⟨S6912, .i1⟩ : BufTy).Contents (Elt F) → (⟨S6912x1, .i1⟩ : BufTy).Contents (Elt F)),
    unary main_v12 main_v27 (broadcastInDim S1x6912 ![1] bcast_S6912_S1x6912_1 : (⟨S6912, .i1⟩ : BufTy).Contents (Elt F) → (⟨S1x6912, .i1⟩ : BufTy).Contents (Elt F)),
    unary main_v26 main_v28 (broadcastInDim S6912x6912 ![0, 1] bcast_S6912x1_S6912x6912_0_1 : (⟨S6912x1, .i1⟩ : BufTy).Contents (Elt F) → (⟨S6912x6912, .i1⟩ : BufTy).Contents (Elt F)),
    unary main_v27 main_v29 (broadcastInDim S6912x6912 ![0, 1] bcast_S1x6912_S6912x6912_0_1 : (⟨S1x6912, .i1⟩ : BufTy).Contents (Elt F) → (⟨S6912x6912, .i1⟩ : BufTy).Contents (Elt F)),
    binary main_v28 main_v29 main_v30 (andi : (⟨S6912x6912, .i1⟩ : BufTy).Contents (Elt F) → (⟨S6912x6912, .i1⟩ : BufTy).Contents (Elt F) → (⟨S6912x6912, .i1⟩ : BufTy).Contents (Elt F)),
    nullary main_v31 (iotaInDim S6912x6912 32 0),
    nullary main_v32 (iotaInDim S6912x6912 32 1),
    nullary main_c_1 (constantI S_ 32 0#32),
    unary main_c_1 main_v33 (broadcastInDim S6912x6912 ![] bcast_S_S6912x6912 : (⟨S_, .i32⟩ : BufTy).Contents (Elt F) → (⟨S6912x6912, .i32⟩ : BufTy).Contents (Elt F)),
    binary main_v31 main_v33 main_v34 (addi : (⟨S6912x6912, .i32⟩ : BufTy).Contents (Elt F) → (⟨S6912x6912, .i32⟩ : BufTy).Contents (Elt F) → (⟨S6912x6912, .i32⟩ : BufTy).Contents (Elt F)),
    binary main_v34 main_v32 main_v35 (cmpi .eq : (⟨S6912x6912, .i32⟩ : BufTy).Contents (Elt F) → (⟨S6912x6912, .i32⟩ : BufTy).Contents (Elt F) → (⟨S6912x6912, .i1⟩ : BufTy).Contents (Elt F)),
    binary main_v30 main_v25 main_v36 (andi : (⟨S6912x6912, .i1⟩ : BufTy).Contents (Elt F) → (⟨S6912x6912, .i1⟩ : BufTy).Contents (Elt F) → (⟨S6912x6912, .i1⟩ : BufTy).Contents (Elt F)),
    unary main_v12 main_v37 (broadcastInDim S6912x1 ![0] bcast_S6912_S6912x1_0 : (⟨S6912, .i1⟩ : BufTy).Contents (Elt F) → (⟨S6912x1, .i1⟩ : BufTy).Contents (Elt F)),
    unary main_v37 main_v38 (noti : (⟨S6912x1, .i1⟩ : BufTy).Contents (Elt F) → (⟨S6912x1, .i1⟩ : BufTy).Contents (Elt F)),
    unary main_v38 main_v39 (broadcastInDim S6912x6912 ![0, 1] bcast_S6912x1_S6912x6912_0_1 : (⟨S6912x1, .i1⟩ : BufTy).Contents (Elt F) → (⟨S6912x6912, .i1⟩ : BufTy).Contents (Elt F)),
    binary main_v39 main_v35 main_v40 (andi : (⟨S6912x6912, .i1⟩ : BufTy).Contents (Elt F) → (⟨S6912x6912, .i1⟩ : BufTy).Contents (Elt F) → (⟨S6912x6912, .i1⟩ : BufTy).Contents (Elt F)),
    binary main_v36 main_v40 main_v41 (ori : (⟨S6912x6912, .i1⟩ : BufTy).Contents (Elt F) → (⟨S6912x6912, .i1⟩ : BufTy).Contents (Elt F) → (⟨S6912x6912, .i1⟩ : BufTy).Contents (Elt F)),
    unary main_v25 main_v42 (noti : (⟨S6912x6912, .i1⟩ : BufTy).Contents (Elt F) → (⟨S6912x6912, .i1⟩ : BufTy).Contents (Elt F)),
    binary main_v30 main_v42 main_v43 (andi : (⟨S6912x6912, .i1⟩ : BufTy).Contents (Elt F) → (⟨S6912x6912, .i1⟩ : BufTy).Contents (Elt F) → (⟨S6912x6912, .i1⟩ : BufTy).Contents (Elt F)),
    unary main_v12 main_v44 (broadcastInDim S6912x1 ![0] bcast_S6912_S6912x1_0 : (⟨S6912, .i1⟩ : BufTy).Contents (Elt F) → (⟨S6912x1, .i1⟩ : BufTy).Contents (Elt F)),
    unary main_v44 main_v45 (noti : (⟨S6912x1, .i1⟩ : BufTy).Contents (Elt F) → (⟨S6912x1, .i1⟩ : BufTy).Contents (Elt F)),
    unary main_v45 main_v46 (broadcastInDim S6912x6912 ![0, 1] bcast_S6912x1_S6912x6912_0_1 : (⟨S6912x1, .i1⟩ : BufTy).Contents (Elt F) → (⟨S6912x6912, .i1⟩ : BufTy).Contents (Elt F)),
    binary main_v46 main_v35 main_v47 (andi : (⟨S6912x6912, .i1⟩ : BufTy).Contents (Elt F) → (⟨S6912x6912, .i1⟩ : BufTy).Contents (Elt F) → (⟨S6912x6912, .i1⟩ : BufTy).Contents (Elt F)),
    binary main_v43 main_v47 main_v48 (ori : (⟨S6912x6912, .i1⟩ : BufTy).Contents (Elt F) → (⟨S6912x6912, .i1⟩ : BufTy).Contents (Elt F) → (⟨S6912x6912, .i1⟩ : BufTy).Contents (Elt F)),
    unary main_v19 main_v49 (Host.negf : (⟨S6912x6912, .f32⟩ : BufTy).Contents (Elt F) → (⟨S6912x6912, .f32⟩ : BufTy).Contents (Elt F)),
    nullary main_cst_2 (constant S_ .f32 0xFF800000#32),
    TRef.unary (TRef.of (T := ⟨S_, .f32⟩) main_cst_2) (TRef.of (T := ⟨S_, .f32⟩) main_call3_v0) id,
    TRef.unary (TRef.of (T := ⟨S_, .f32⟩) main_call3_v0) (TRef.of (T := ⟨S6912x6912, .f32⟩) main_call3_v1) (broadcastInDim S6912x6912 ![] bcast_S_S6912x6912),
    TRef.ternary (TRef.of (T := ⟨S6912x6912, .i1⟩) main_v41) (TRef.of (T := ⟨S6912x6912, .f32⟩) main_v49) (TRef.of (T := ⟨S6912x6912, .f32⟩) main_call3_v1) (TRef.of (T := ⟨S6912x6912, .f32⟩) main_v50) select,
    unary main_v50 main_v51 (Host.exp : (⟨S6912x6912, .f32⟩ : BufTy).Contents (Elt F) → (⟨S6912x6912, .f32⟩ : BufTy).Contents (Elt F)),
    nullary main_cst_3 (constant S_ .f32 0x00000000#32),
    binary main_v51 main_cst_3 main_v52 ((fun x v => Host.reduceAdd x v reducesTo_S6912x6912_S6912_d1 h_S_) : (⟨S6912x6912, .f32⟩ : BufTy).Contents (Elt F) → (⟨S_, .f32⟩ : BufTy).Contents (Elt F) → (⟨S6912, .f32⟩ : BufTy).Contents (Elt F)),
    unary main_v52 main_v53 (Host.log : (⟨S6912, .f32⟩ : BufTy).Contents (Elt F) → (⟨S6912, .f32⟩ : BufTy).Contents (Elt F)),
    nullary main_cst_4 (constant S_ .f32 0xFF800000#32),
    TRef.unary (TRef.of (T := ⟨S_, .f32⟩) main_cst_4) (TRef.of (T := ⟨S_, .f32⟩) main_call4_v0) id,
    TRef.unary (TRef.of (T := ⟨S_, .f32⟩) main_call4_v0) (TRef.of (T := ⟨S6912x6912, .f32⟩) main_call4_v1) (broadcastInDim S6912x6912 ![] bcast_S_S6912x6912),
    TRef.ternary (TRef.of (T := ⟨S6912x6912, .i1⟩) main_v48) (TRef.of (T := ⟨S6912x6912, .f32⟩) main_v19) (TRef.of (T := ⟨S6912x6912, .f32⟩) main_call4_v1) (TRef.of (T := ⟨S6912x6912, .f32⟩) main_v54) select,
    unary main_v54 main_v55 (Host.exp : (⟨S6912x6912, .f32⟩ : BufTy).Contents (Elt F) → (⟨S6912x6912, .f32⟩ : BufTy).Contents (Elt F)),
    nullary main_cst_5 (constant S_ .f32 0x00000000#32),
    binary main_v55 main_cst_5 main_v56 ((fun x v => Host.reduceAdd x v reducesTo_S6912x6912_S6912_d1 h_S_) : (⟨S6912x6912, .f32⟩ : BufTy).Contents (Elt F) → (⟨S_, .f32⟩ : BufTy).Contents (Elt F) → (⟨S6912, .f32⟩ : BufTy).Contents (Elt F)),
    unary main_v56 main_v57 (Host.log : (⟨S6912, .f32⟩ : BufTy).Contents (Elt F) → (⟨S6912, .f32⟩ : BufTy).Contents (Elt F)),
    binary main_v53 main_v57 main_v58 (addf : (⟨S6912, .f32⟩ : BufTy).Contents (Elt F) → (⟨S6912, .f32⟩ : BufTy).Contents (Elt F) → (⟨S6912, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S6912, .f32⟩) main_call5_v0) (broadcastInDim S6912 ![] bcast_S_S6912),
    TRef.binary (TRef.of (T := ⟨S6912, .f32⟩) main_v58) (TRef.of (T := ⟨S6912, .f32⟩) main_call5_v0) (TRef.of (T := ⟨S6912, .f32⟩) main_call5_v1) maximumf,
    TRef.unary (TRef.of (T := ⟨S_, .f32⟩) main_call5_cst) (TRef.of (T := ⟨S6912, .f32⟩) main_call5_v2) (broadcastInDim S6912 ![] bcast_S_S6912),
    TRef.binary (TRef.of (T := ⟨S6912, .f32⟩) main_v58) (TRef.of (T := ⟨S6912, .f32⟩) main_call5_v2) (TRef.of (T := ⟨S6912, .f32⟩) main_call5_v3) subf,
    TRef.binary (TRef.of (T := ⟨S6912, .f32⟩) main_call5_v3) (TRef.of (T := ⟨S6912, .f32⟩) main_call5_v3) (TRef.of (T := ⟨S6912, .i1⟩) main_call5_v4) (cmpf .une),
    TRef.unary (TRef.of (T := ⟨S_, .f32⟩) main_call5_cst) (TRef.of (T := ⟨S6912, .f32⟩) main_call5_v5) (broadcastInDim S6912 ![] bcast_S_S6912),
    TRef.binary (TRef.of (T := ⟨S6912, .f32⟩) main_v58) (TRef.of (T := ⟨S6912, .f32⟩) main_call5_v5) (TRef.of (T := ⟨S6912, .f32⟩) main_call5_v6) addf,
    TRef.unary (TRef.of (T := ⟨S6912, .f32⟩) main_call5_v3) (TRef.of (T := ⟨S6912, .f32⟩) main_call5_v7) Host.absf,
    TRef.unary (TRef.of (T := ⟨S6912, .f32⟩) main_call5_v7) (TRef.of (T := ⟨S6912, .f32⟩) main_call5_v8) Host.negf,
    TRef.unary (TRef.of (T := ⟨S6912, .f32⟩) main_call5_v8) (TRef.of (T := ⟨S6912, .f32⟩) main_call5_v9) Host.exp,
    TRef.unary (TRef.of (T := ⟨S6912, .f32⟩) main_call5_v9) (TRef.of (T := ⟨S6912, .f32⟩) main_call5_v10) Host.log1p,
    TRef.binary (TRef.of (T := ⟨S6912, .f32⟩) main_call5_v1) (TRef.of (T := ⟨S6912, .f32⟩) main_call5_v10) (TRef.of (T := ⟨S6912, .f32⟩) main_call5_v11) addf,
    TRef.ternary (TRef.of (T := ⟨S6912, .i1⟩) main_call5_v4) (TRef.of (T := ⟨S6912, .f32⟩) main_call5_v6) (TRef.of (T := ⟨S6912, .f32⟩) main_call5_v11) (TRef.of (T := ⟨S6912, .f32⟩) main_v59) select,
    unary main_v12 main_v60 (uitofp .f32 : (⟨S6912, .i1⟩ : BufTy).Contents (Elt F) → (⟨S6912, .f32⟩ : BufTy).Contents (Elt F)),
    nullary main_cst_6 (constant S_ .f32 0x00000000#32),
    binary main_v60 main_cst_6 main_v61 ((fun x v => Host.reduceAdd x v reducesTo_S6912_S_d0 h_S_) : (⟨S6912, .f32⟩ : BufTy).Contents (Elt F) → (⟨S_, .f32⟩ : BufTy).Contents (Elt F) → (⟨S_, .f32⟩ : BufTy).Contents (Elt F)),
    nullary main_cst_7 (constant S_ .f32 0x00000000#32),
    TRef.unary (TRef.of (T := ⟨S_, .f32⟩) main_cst_7) (TRef.of (T := ⟨S_, .f32⟩) main_call6_v0) id,
    TRef.unary (TRef.of (T := ⟨S_, .f32⟩) main_call6_v0) (TRef.of (T := ⟨S6912, .f32⟩) main_call6_v1) (broadcastInDim S6912 ![] bcast_S_S6912),
    TRef.ternary (TRef.of (T := ⟨S6912, .i1⟩) main_v12) (TRef.of (T := ⟨S6912, .f32⟩) main_v59) (TRef.of (T := ⟨S6912, .f32⟩) main_call6_v1) (TRef.of (T := ⟨S6912, .f32⟩) main_v62) select,
    nullary main_cst_8 (constant S_ .f32 0x00000000#32),
    binary main_v62 main_cst_8 main_v63 ((fun x v => Host.reduceAdd x v reducesTo_S6912_S_d0 h_S_) : (⟨S6912, .f32⟩ : BufTy).Contents (Elt F) → (⟨S_, .f32⟩ : BufTy).Contents (Elt F) → (⟨S_, .f32⟩ : BufTy).Contents (Elt F)),
    binary main_v63 main_v61 main_v64 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The program is its operations in a row. -/
theorem main_eq (c : Dev nD) : main (F := F) c = seq ops := rfl
/-- It has no scoped buffer. -/
theorem scopedRefs_eq : (Finset.univ.filter fun b : Ref sig .tc => b.isScoped) = ∅ := by decide
/-- It has no scoped semaphore. -/
theorem scopedSems_eq : (Finset.univ.filter fun sm : SemLoc sig => sm.isScoped .tc) = ∅ := by decide
set_option maxRecDepth 8192 in
/-- Every operation stays within the buffers of the program. -/
theorem ops_sub : (ops : List (HloOp τ sig (Elt F))).Forall fun op => op.bufs ⊆ tcRefs τ sig :=
  ⟨unary_bufs_sub .., nullary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., unary_bufs_sub .., unary_bufs_sub .., unary_bufs_sub .., binary_bufs_sub .., reshape_bufs_sub .., reshape_bufs_sub .., binary_bufs_sub .., nullary_bufs_sub .., binary_bufs_sub .., unary_bufs_sub .., unary_bufs_sub .., nullary_bufs_sub .., unary_bufs_sub .., unary_bufs_sub .., binary_bufs_sub .., unary_bufs_sub .., binary_bufs_sub .., unary_bufs_sub .., binary_bufs_sub .., reshape_bufs_sub .., unary_bufs_sub .., unary_bufs_sub .., unary_bufs_sub .., unary_bufs_sub .., binary_bufs_sub .., unary_bufs_sub .., unary_bufs_sub .., unary_bufs_sub .., unary_bufs_sub .., binary_bufs_sub .., nullary_bufs_sub .., nullary_bufs_sub .., nullary_bufs_sub .., unary_bufs_sub .., binary_bufs_sub .., binary_bufs_sub .., binary_bufs_sub .., unary_bufs_sub .., unary_bufs_sub .., unary_bufs_sub .., binary_bufs_sub .., binary_bufs_sub .., unary_bufs_sub .., binary_bufs_sub .., unary_bufs_sub .., unary_bufs_sub .., unary_bufs_sub .., binary_bufs_sub .., binary_bufs_sub .., unary_bufs_sub .., nullary_bufs_sub .., unary_bufs_sub .., unary_bufs_sub .., ternary_bufs_sub .., unary_bufs_sub .., nullary_bufs_sub .., binary_bufs_sub .., unary_bufs_sub .., nullary_bufs_sub .., unary_bufs_sub .., unary_bufs_sub .., ternary_bufs_sub .., unary_bufs_sub .., nullary_bufs_sub .., binary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., binary_bufs_sub .., nullary_bufs_sub .., unary_bufs_sub .., unary_bufs_sub .., ternary_bufs_sub .., nullary_bufs_sub .., binary_bufs_sub .., binary_bufs_sub ..⟩

set_option maxRecDepth 8192 in
/-- The contents of `main_v64` as a term of the arguments. -/
def res_main_v64 (m : (ℓ : Loc nD τ sig) → Buf (Elt F) ℓ) (c : Dev nD) : Buf (Elt F) ((c.tc : Thread nD τ).loc main_v64) :=
  Host.divf (Host.reduceAdd (select (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912) (select (cmpf .une (subf (addf (Host.log (Host.reduceAdd (Host.exp (select (ori (andi (andi (broadcastInDim S6912x6912 ![0, 1] bcast_S6912x1_S6912x6912_0_1 (broadcastInDim S6912x1 ![0] bcast_S6912_S6912x1_0 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912))) (broadcastInDim S6912x6912 ![0, 1] bcast_S1x6912_S6912x6912_0_1 (broadcastInDim S1x6912 ![1] bcast_S6912_S1x6912_1 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912)))) (cmpi .eq (broadcastInDim S6912x6912 ![0, 1] bcast_S6912x1_S6912x6912_0_1 (broadcastInDim S6912x1 ![0] bcast_S6912_S6912x1_0 (shapeCast _ (m ((c.tc : Thread nD τ).loc main_arg1)) shapeCasts_S256x27_S6912))) (broadcastInDim S6912x6912 ![0, 1] bcast_S1x6912_S6912x6912_0_1 (broadcastInDim S1x6912 ![1] bcast_S6912_S1x6912_1 (shapeCast _ (m ((c.tc : Thread nD τ).loc main_arg1)) shapeCasts_S256x27_S6912))))) (andi (broadcastInDim S6912x6912 ![0, 1] bcast_S6912x1_S6912x6912_0_1 (noti (broadcastInDim S6912x1 ![0] bcast_S6912_S6912x1_0 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912)))) (cmpi .eq (addi (iotaInDim S6912x6912 32 0) (broadcastInDim S6912x6912 ![] bcast_S_S6912x6912 (constantI S_ 32 0#32))) (iotaInDim S6912x6912 32 1)))) (Host.negf (Host.dotGeneral dot_S6912x1024_S1024x6912_S6912x6912_1_0_0_1_n_n none (Host.divf (shapeCast _ (m ((c.tc : Thread nD τ).loc main_arg0)) shapeCasts_S256x27x1024_S6912x1024) (broadcastInDim S6912x1024 ![0, 1] bcast_S6912x1_S6912x1024_0_1 (maximumf (broadcastInDim S6912x1 ![] bcast_S_S6912x1 (id (constant S_ .f32 0x2B8CBCCC#32))) (Host.sqrt (broadcastInDim S6912x1 ![0] bcast_S6912_S6912x1_0 (Host.reduceAdd (mulf (shapeCast _ (m ((c.tc : Thread nD τ).loc main_arg0)) shapeCasts_S256x27x1024_S6912x1024) (shapeCast _ (m ((c.tc : Thread nD τ).loc main_arg0)) shapeCasts_S256x27x1024_S6912x1024)) (constant S_ .f32 0x00000000#32) reducesTo_S6912x1024_S6912_d1 h_S_)))))) (transpose S1024x6912 [1, 0] (Host.divf (shapeCast _ (m ((c.tc : Thread nD τ).loc main_arg0)) shapeCasts_S256x27x1024_S6912x1024) (broadcastInDim S6912x1024 ![0, 1] bcast_S6912x1_S6912x1024_0_1 (maximumf (broadcastInDim S6912x1 ![] bcast_S_S6912x1 (id (constant S_ .f32 0x2B8CBCCC#32))) (Host.sqrt (broadcastInDim S6912x1 ![0] bcast_S6912_S6912x1_0 (Host.reduceAdd (mulf (shapeCast _ (m ((c.tc : Thread nD τ).loc main_arg0)) shapeCasts_S256x27x1024_S6912x1024) (shapeCast _ (m ((c.tc : Thread nD τ).loc main_arg0)) shapeCasts_S256x27x1024_S6912x1024)) (constant S_ .f32 0x00000000#32) reducesTo_S6912x1024_S6912_d1 h_S_)))))) transposes_S6912x1024_S1024x6912_1_0))) (broadcastInDim S6912x6912 ![] bcast_S_S6912x6912 (id (constant S_ .f32 0xFF800000#32))))) (constant S_ .f32 0x00000000#32) reducesTo_S6912x6912_S6912_d1 h_S_)) (Host.log (Host.reduceAdd (Host.exp (select (ori (andi (andi (broadcastInDim S6912x6912 ![0, 1] bcast_S6912x1_S6912x6912_0_1 (broadcastInDim S6912x1 ![0] bcast_S6912_S6912x1_0 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912))) (broadcastInDim S6912x6912 ![0, 1] bcast_S1x6912_S6912x6912_0_1 (broadcastInDim S1x6912 ![1] bcast_S6912_S1x6912_1 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912)))) (noti (cmpi .eq (broadcastInDim S6912x6912 ![0, 1] bcast_S6912x1_S6912x6912_0_1 (broadcastInDim S6912x1 ![0] bcast_S6912_S6912x1_0 (shapeCast _ (m ((c.tc : Thread nD τ).loc main_arg1)) shapeCasts_S256x27_S6912))) (broadcastInDim S6912x6912 ![0, 1] bcast_S1x6912_S6912x6912_0_1 (broadcastInDim S1x6912 ![1] bcast_S6912_S1x6912_1 (shapeCast _ (m ((c.tc : Thread nD τ).loc main_arg1)) shapeCasts_S256x27_S6912)))))) (andi (broadcastInDim S6912x6912 ![0, 1] bcast_S6912x1_S6912x6912_0_1 (noti (broadcastInDim S6912x1 ![0] bcast_S6912_S6912x1_0 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912)))) (cmpi .eq (addi (iotaInDim S6912x6912 32 0) (broadcastInDim S6912x6912 ![] bcast_S_S6912x6912 (constantI S_ 32 0#32))) (iotaInDim S6912x6912 32 1)))) (Host.dotGeneral dot_S6912x1024_S1024x6912_S6912x6912_1_0_0_1_n_n none (Host.divf (shapeCast _ (m ((c.tc : Thread nD τ).loc main_arg0)) shapeCasts_S256x27x1024_S6912x1024) (broadcastInDim S6912x1024 ![0, 1] bcast_S6912x1_S6912x1024_0_1 (maximumf (broadcastInDim S6912x1 ![] bcast_S_S6912x1 (id (constant S_ .f32 0x2B8CBCCC#32))) (Host.sqrt (broadcastInDim S6912x1 ![0] bcast_S6912_S6912x1_0 (Host.reduceAdd (mulf (shapeCast _ (m ((c.tc : Thread nD τ).loc main_arg0)) shapeCasts_S256x27x1024_S6912x1024) (shapeCast _ (m ((c.tc : Thread nD τ).loc main_arg0)) shapeCasts_S256x27x1024_S6912x1024)) (constant S_ .f32 0x00000000#32) reducesTo_S6912x1024_S6912_d1 h_S_)))))) (transpose S1024x6912 [1, 0] (Host.divf (shapeCast _ (m ((c.tc : Thread nD τ).loc main_arg0)) shapeCasts_S256x27x1024_S6912x1024) (broadcastInDim S6912x1024 ![0, 1] bcast_S6912x1_S6912x1024_0_1 (maximumf (broadcastInDim S6912x1 ![] bcast_S_S6912x1 (id (constant S_ .f32 0x2B8CBCCC#32))) (Host.sqrt (broadcastInDim S6912x1 ![0] bcast_S6912_S6912x1_0 (Host.reduceAdd (mulf (shapeCast _ (m ((c.tc : Thread nD τ).loc main_arg0)) shapeCasts_S256x27x1024_S6912x1024) (shapeCast _ (m ((c.tc : Thread nD τ).loc main_arg0)) shapeCasts_S256x27x1024_S6912x1024)) (constant S_ .f32 0x00000000#32) reducesTo_S6912x1024_S6912_d1 h_S_)))))) transposes_S6912x1024_S1024x6912_1_0)) (broadcastInDim S6912x6912 ![] bcast_S_S6912x6912 (id (constant S_ .f32 0xFF800000#32))))) (constant S_ .f32 0x00000000#32) reducesTo_S6912x6912_S6912_d1 h_S_))) (broadcastInDim S6912 ![] bcast_S_S6912 (constant S_ .f32 0x00000000#32))) (subf (addf (Host.log (Host.reduceAdd (Host.exp (select (ori (andi (andi (broadcastInDim S6912x6912 ![0, 1] bcast_S6912x1_S6912x6912_0_1 (broadcastInDim S6912x1 ![0] bcast_S6912_S6912x1_0 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912))) (broadcastInDim S6912x6912 ![0, 1] bcast_S1x6912_S6912x6912_0_1 (broadcastInDim S1x6912 ![1] bcast_S6912_S1x6912_1 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912)))) (cmpi .eq (broadcastInDim S6912x6912 ![0, 1] bcast_S6912x1_S6912x6912_0_1 (broadcastInDim S6912x1 ![0] bcast_S6912_S6912x1_0 (shapeCast _ (m ((c.tc : Thread nD τ).loc main_arg1)) shapeCasts_S256x27_S6912))) (broadcastInDim S6912x6912 ![0, 1] bcast_S1x6912_S6912x6912_0_1 (broadcastInDim S1x6912 ![1] bcast_S6912_S1x6912_1 (shapeCast _ (m ((c.tc : Thread nD τ).loc main_arg1)) shapeCasts_S256x27_S6912))))) (andi (broadcastInDim S6912x6912 ![0, 1] bcast_S6912x1_S6912x6912_0_1 (noti (broadcastInDim S6912x1 ![0] bcast_S6912_S6912x1_0 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912)))) (cmpi .eq (addi (iotaInDim S6912x6912 32 0) (broadcastInDim S6912x6912 ![] bcast_S_S6912x6912 (constantI S_ 32 0#32))) (iotaInDim S6912x6912 32 1)))) (Host.negf (Host.dotGeneral dot_S6912x1024_S1024x6912_S6912x6912_1_0_0_1_n_n none (Host.divf (shapeCast _ (m ((c.tc : Thread nD τ).loc main_arg0)) shapeCasts_S256x27x1024_S6912x1024) (broadcastInDim S6912x1024 ![0, 1] bcast_S6912x1_S6912x1024_0_1 (maximumf (broadcastInDim S6912x1 ![] bcast_S_S6912x1 (id (constant S_ .f32 0x2B8CBCCC#32))) (Host.sqrt (broadcastInDim S6912x1 ![0] bcast_S6912_S6912x1_0 (Host.reduceAdd (mulf (shapeCast _ (m ((c.tc : Thread nD τ).loc main_arg0)) shapeCasts_S256x27x1024_S6912x1024) (shapeCast _ (m ((c.tc : Thread nD τ).loc main_arg0)) shapeCasts_S256x27x1024_S6912x1024)) (constant S_ .f32 0x00000000#32) reducesTo_S6912x1024_S6912_d1 h_S_)))))) (transpose S1024x6912 [1, 0] (Host.divf (shapeCast _ (m ((c.tc : Thread nD τ).loc main_arg0)) shapeCasts_S256x27x1024_S6912x1024) (broadcastInDim S6912x1024 ![0, 1] bcast_S6912x1_S6912x1024_0_1 (maximumf (broadcastInDim S6912x1 ![] bcast_S_S6912x1 (id (constant S_ .f32 0x2B8CBCCC#32))) (Host.sqrt (broadcastInDim S6912x1 ![0] bcast_S6912_S6912x1_0 (Host.reduceAdd (mulf (shapeCast _ (m ((c.tc : Thread nD τ).loc main_arg0)) shapeCasts_S256x27x1024_S6912x1024) (shapeCast _ (m ((c.tc : Thread nD τ).loc main_arg0)) shapeCasts_S256x27x1024_S6912x1024)) (constant S_ .f32 0x00000000#32) reducesTo_S6912x1024_S6912_d1 h_S_)))))) transposes_S6912x1024_S1024x6912_1_0))) (broadcastInDim S6912x6912 ![] bcast_S_S6912x6912 (id (constant S_ .f32 0xFF800000#32))))) (constant S_ .f32 0x00000000#32) reducesTo_S6912x6912_S6912_d1 h_S_)) (Host.log (Host.reduceAdd (Host.exp (select (ori (andi (andi (broadcastInDim S6912x6912 ![0, 1] bcast_S6912x1_S6912x6912_0_1 (broadcastInDim S6912x1 ![0] bcast_S6912_S6912x1_0 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912))) (broadcastInDim S6912x6912 ![0, 1] bcast_S1x6912_S6912x6912_0_1 (broadcastInDim S1x6912 ![1] bcast_S6912_S1x6912_1 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912)))) (noti (cmpi .eq (broadcastInDim S6912x6912 ![0, 1] bcast_S6912x1_S6912x6912_0_1 (broadcastInDim S6912x1 ![0] bcast_S6912_S6912x1_0 (shapeCast _ (m ((c.tc : Thread nD τ).loc main_arg1)) shapeCasts_S256x27_S6912))) (broadcastInDim S6912x6912 ![0, 1] bcast_S1x6912_S6912x6912_0_1 (broadcastInDim S1x6912 ![1] bcast_S6912_S1x6912_1 (shapeCast _ (m ((c.tc : Thread nD τ).loc main_arg1)) shapeCasts_S256x27_S6912)))))) (andi (broadcastInDim S6912x6912 ![0, 1] bcast_S6912x1_S6912x6912_0_1 (noti (broadcastInDim S6912x1 ![0] bcast_S6912_S6912x1_0 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912)))) (cmpi .eq (addi (iotaInDim S6912x6912 32 0) (broadcastInDim S6912x6912 ![] bcast_S_S6912x6912 (constantI S_ 32 0#32))) (iotaInDim S6912x6912 32 1)))) (Host.dotGeneral dot_S6912x1024_S1024x6912_S6912x6912_1_0_0_1_n_n none (Host.divf (shapeCast _ (m ((c.tc : Thread nD τ).loc main_arg0)) shapeCasts_S256x27x1024_S6912x1024) (broadcastInDim S6912x1024 ![0, 1] bcast_S6912x1_S6912x1024_0_1 (maximumf (broadcastInDim S6912x1 ![] bcast_S_S6912x1 (id (constant S_ .f32 0x2B8CBCCC#32))) (Host.sqrt (broadcastInDim S6912x1 ![0] bcast_S6912_S6912x1_0 (Host.reduceAdd (mulf (shapeCast _ (m ((c.tc : Thread nD τ).loc main_arg0)) shapeCasts_S256x27x1024_S6912x1024) (shapeCast _ (m ((c.tc : Thread nD τ).loc main_arg0)) shapeCasts_S256x27x1024_S6912x1024)) (constant S_ .f32 0x00000000#32) reducesTo_S6912x1024_S6912_d1 h_S_)))))) (transpose S1024x6912 [1, 0] (Host.divf (shapeCast _ (m ((c.tc : Thread nD τ).loc main_arg0)) shapeCasts_S256x27x1024_S6912x1024) (broadcastInDim S6912x1024 ![0, 1] bcast_S6912x1_S6912x1024_0_1 (maximumf (broadcastInDim S6912x1 ![] bcast_S_S6912x1 (id (constant S_ .f32 0x2B8CBCCC#32))) (Host.sqrt (broadcastInDim S6912x1 ![0] bcast_S6912_S6912x1_0 (Host.reduceAdd (mulf (shapeCast _ (m ((c.tc : Thread nD τ).loc main_arg0)) shapeCasts_S256x27x1024_S6912x1024) (shapeCast _ (m ((c.tc : Thread nD τ).loc main_arg0)) shapeCasts_S256x27x1024_S6912x1024)) (constant S_ .f32 0x00000000#32) reducesTo_S6912x1024_S6912_d1 h_S_)))))) transposes_S6912x1024_S1024x6912_1_0)) (broadcastInDim S6912x6912 ![] bcast_S_S6912x6912 (id (constant S_ .f32 0xFF800000#32))))) (constant S_ .f32 0x00000000#32) reducesTo_S6912x6912_S6912_d1 h_S_))) (broadcastInDim S6912 ![] bcast_S_S6912 (constant S_ .f32 0x00000000#32)))) (addf (addf (Host.log (Host.reduceAdd (Host.exp (select (ori (andi (andi (broadcastInDim S6912x6912 ![0, 1] bcast_S6912x1_S6912x6912_0_1 (broadcastInDim S6912x1 ![0] bcast_S6912_S6912x1_0 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912))) (broadcastInDim S6912x6912 ![0, 1] bcast_S1x6912_S6912x6912_0_1 (broadcastInDim S1x6912 ![1] bcast_S6912_S1x6912_1 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912)))) (cmpi .eq (broadcastInDim S6912x6912 ![0, 1] bcast_S6912x1_S6912x6912_0_1 (broadcastInDim S6912x1 ![0] bcast_S6912_S6912x1_0 (shapeCast _ (m ((c.tc : Thread nD τ).loc main_arg1)) shapeCasts_S256x27_S6912))) (broadcastInDim S6912x6912 ![0, 1] bcast_S1x6912_S6912x6912_0_1 (broadcastInDim S1x6912 ![1] bcast_S6912_S1x6912_1 (shapeCast _ (m ((c.tc : Thread nD τ).loc main_arg1)) shapeCasts_S256x27_S6912))))) (andi (broadcastInDim S6912x6912 ![0, 1] bcast_S6912x1_S6912x6912_0_1 (noti (broadcastInDim S6912x1 ![0] bcast_S6912_S6912x1_0 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912)))) (cmpi .eq (addi (iotaInDim S6912x6912 32 0) (broadcastInDim S6912x6912 ![] bcast_S_S6912x6912 (constantI S_ 32 0#32))) (iotaInDim S6912x6912 32 1)))) (Host.negf (Host.dotGeneral dot_S6912x1024_S1024x6912_S6912x6912_1_0_0_1_n_n none (Host.divf (shapeCast _ (m ((c.tc : Thread nD τ).loc main_arg0)) shapeCasts_S256x27x1024_S6912x1024) (broadcastInDim S6912x1024 ![0, 1] bcast_S6912x1_S6912x1024_0_1 (maximumf (broadcastInDim S6912x1 ![] bcast_S_S6912x1 (id (constant S_ .f32 0x2B8CBCCC#32))) (Host.sqrt (broadcastInDim S6912x1 ![0] bcast_S6912_S6912x1_0 (Host.reduceAdd (mulf (shapeCast _ (m ((c.tc : Thread nD τ).loc main_arg0)) shapeCasts_S256x27x1024_S6912x1024) (shapeCast _ (m ((c.tc : Thread nD τ).loc main_arg0)) shapeCasts_S256x27x1024_S6912x1024)) (constant S_ .f32 0x00000000#32) reducesTo_S6912x1024_S6912_d1 h_S_)))))) (transpose S1024x6912 [1, 0] (Host.divf (shapeCast _ (m ((c.tc : Thread nD τ).loc main_arg0)) shapeCasts_S256x27x1024_S6912x1024) (broadcastInDim S6912x1024 ![0, 1] bcast_S6912x1_S6912x1024_0_1 (maximumf (broadcastInDim S6912x1 ![] bcast_S_S6912x1 (id (constant S_ .f32 0x2B8CBCCC#32))) (Host.sqrt (broadcastInDim S6912x1 ![0] bcast_S6912_S6912x1_0 (Host.reduceAdd (mulf (shapeCast _ (m ((c.tc : Thread nD τ).loc main_arg0)) shapeCasts_S256x27x1024_S6912x1024) (shapeCast _ (m ((c.tc : Thread nD τ).loc main_arg0)) shapeCasts_S256x27x1024_S6912x1024)) (constant S_ .f32 0x00000000#32) reducesTo_S6912x1024_S6912_d1 h_S_)))))) transposes_S6912x1024_S1024x6912_1_0))) (broadcastInDim S6912x6912 ![] bcast_S_S6912x6912 (id (constant S_ .f32 0xFF800000#32))))) (constant S_ .f32 0x00000000#32) reducesTo_S6912x6912_S6912_d1 h_S_)) (Host.log (Host.reduceAdd (Host.exp (select (ori (andi (andi (broadcastInDim S6912x6912 ![0, 1] bcast_S6912x1_S6912x6912_0_1 (broadcastInDim S6912x1 ![0] bcast_S6912_S6912x1_0 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912))) (broadcastInDim S6912x6912 ![0, 1] bcast_S1x6912_S6912x6912_0_1 (broadcastInDim S1x6912 ![1] bcast_S6912_S1x6912_1 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912)))) (noti (cmpi .eq (broadcastInDim S6912x6912 ![0, 1] bcast_S6912x1_S6912x6912_0_1 (broadcastInDim S6912x1 ![0] bcast_S6912_S6912x1_0 (shapeCast _ (m ((c.tc : Thread nD τ).loc main_arg1)) shapeCasts_S256x27_S6912))) (broadcastInDim S6912x6912 ![0, 1] bcast_S1x6912_S6912x6912_0_1 (broadcastInDim S1x6912 ![1] bcast_S6912_S1x6912_1 (shapeCast _ (m ((c.tc : Thread nD τ).loc main_arg1)) shapeCasts_S256x27_S6912)))))) (andi (broadcastInDim S6912x6912 ![0, 1] bcast_S6912x1_S6912x6912_0_1 (noti (broadcastInDim S6912x1 ![0] bcast_S6912_S6912x1_0 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912)))) (cmpi .eq (addi (iotaInDim S6912x6912 32 0) (broadcastInDim S6912x6912 ![] bcast_S_S6912x6912 (constantI S_ 32 0#32))) (iotaInDim S6912x6912 32 1)))) (Host.dotGeneral dot_S6912x1024_S1024x6912_S6912x6912_1_0_0_1_n_n none (Host.divf (shapeCast _ (m ((c.tc : Thread nD τ).loc main_arg0)) shapeCasts_S256x27x1024_S6912x1024) (broadcastInDim S6912x1024 ![0, 1] bcast_S6912x1_S6912x1024_0_1 (maximumf (broadcastInDim S6912x1 ![] bcast_S_S6912x1 (id (constant S_ .f32 0x2B8CBCCC#32))) (Host.sqrt (broadcastInDim S6912x1 ![0] bcast_S6912_S6912x1_0 (Host.reduceAdd (mulf (shapeCast _ (m ((c.tc : Thread nD τ).loc main_arg0)) shapeCasts_S256x27x1024_S6912x1024) (shapeCast _ (m ((c.tc : Thread nD τ).loc main_arg0)) shapeCasts_S256x27x1024_S6912x1024)) (constant S_ .f32 0x00000000#32) reducesTo_S6912x1024_S6912_d1 h_S_)))))) (transpose S1024x6912 [1, 0] (Host.divf (shapeCast _ (m ((c.tc : Thread nD τ).loc main_arg0)) shapeCasts_S256x27x1024_S6912x1024) (broadcastInDim S6912x1024 ![0, 1] bcast_S6912x1_S6912x1024_0_1 (maximumf (broadcastInDim S6912x1 ![] bcast_S_S6912x1 (id (constant S_ .f32 0x2B8CBCCC#32))) (Host.sqrt (broadcastInDim S6912x1 ![0] bcast_S6912_S6912x1_0 (Host.reduceAdd (mulf (shapeCast _ (m ((c.tc : Thread nD τ).loc main_arg0)) shapeCasts_S256x27x1024_S6912x1024) (shapeCast _ (m ((c.tc : Thread nD τ).loc main_arg0)) shapeCasts_S256x27x1024_S6912x1024)) (constant S_ .f32 0x00000000#32) reducesTo_S6912x1024_S6912_d1 h_S_)))))) transposes_S6912x1024_S1024x6912_1_0)) (broadcastInDim S6912x6912 ![] bcast_S_S6912x6912 (id (constant S_ .f32 0xFF800000#32))))) (constant S_ .f32 0x00000000#32) reducesTo_S6912x6912_S6912_d1 h_S_))) (broadcastInDim S6912 ![] bcast_S_S6912 (constant S_ .f32 0x00000000#32))) (addf (maximumf (addf (Host.log (Host.reduceAdd (Host.exp (select (ori (andi (andi (broadcastInDim S6912x6912 ![0, 1] bcast_S6912x1_S6912x6912_0_1 (broadcastInDim S6912x1 ![0] bcast_S6912_S6912x1_0 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912))) (broadcastInDim S6912x6912 ![0, 1] bcast_S1x6912_S6912x6912_0_1 (broadcastInDim S1x6912 ![1] bcast_S6912_S1x6912_1 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912)))) (cmpi .eq (broadcastInDim S6912x6912 ![0, 1] bcast_S6912x1_S6912x6912_0_1 (broadcastInDim S6912x1 ![0] bcast_S6912_S6912x1_0 (shapeCast _ (m ((c.tc : Thread nD τ).loc main_arg1)) shapeCasts_S256x27_S6912))) (broadcastInDim S6912x6912 ![0, 1] bcast_S1x6912_S6912x6912_0_1 (broadcastInDim S1x6912 ![1] bcast_S6912_S1x6912_1 (shapeCast _ (m ((c.tc : Thread nD τ).loc main_arg1)) shapeCasts_S256x27_S6912))))) (andi (broadcastInDim S6912x6912 ![0, 1] bcast_S6912x1_S6912x6912_0_1 (noti (broadcastInDim S6912x1 ![0] bcast_S6912_S6912x1_0 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912)))) (cmpi .eq (addi (iotaInDim S6912x6912 32 0) (broadcastInDim S6912x6912 ![] bcast_S_S6912x6912 (constantI S_ 32 0#32))) (iotaInDim S6912x6912 32 1)))) (Host.negf (Host.dotGeneral dot_S6912x1024_S1024x6912_S6912x6912_1_0_0_1_n_n none (Host.divf (shapeCast _ (m ((c.tc : Thread nD τ).loc main_arg0)) shapeCasts_S256x27x1024_S6912x1024) (broadcastInDim S6912x1024 ![0, 1] bcast_S6912x1_S6912x1024_0_1 (maximumf (broadcastInDim S6912x1 ![] bcast_S_S6912x1 (id (constant S_ .f32 0x2B8CBCCC#32))) (Host.sqrt (broadcastInDim S6912x1 ![0] bcast_S6912_S6912x1_0 (Host.reduceAdd (mulf (shapeCast _ (m ((c.tc : Thread nD τ).loc main_arg0)) shapeCasts_S256x27x1024_S6912x1024) (shapeCast _ (m ((c.tc : Thread nD τ).loc main_arg0)) shapeCasts_S256x27x1024_S6912x1024)) (constant S_ .f32 0x00000000#32) reducesTo_S6912x1024_S6912_d1 h_S_)))))) (transpose S1024x6912 [1, 0] (Host.divf (shapeCast _ (m ((c.tc : Thread nD τ).loc main_arg0)) shapeCasts_S256x27x1024_S6912x1024) (broadcastInDim S6912x1024 ![0, 1] bcast_S6912x1_S6912x1024_0_1 (maximumf (broadcastInDim S6912x1 ![] bcast_S_S6912x1 (id (constant S_ .f32 0x2B8CBCCC#32))) (Host.sqrt (broadcastInDim S6912x1 ![0] bcast_S6912_S6912x1_0 (Host.reduceAdd (mulf (shapeCast _ (m ((c.tc : Thread nD τ).loc main_arg0)) shapeCasts_S256x27x1024_S6912x1024) (shapeCast _ (m ((c.tc : Thread nD τ).loc main_arg0)) shapeCasts_S256x27x1024_S6912x1024)) (constant S_ .f32 0x00000000#32) reducesTo_S6912x1024_S6912_d1 h_S_)))))) transposes_S6912x1024_S1024x6912_1_0))) (broadcastInDim S6912x6912 ![] bcast_S_S6912x6912 (id (constant S_ .f32 0xFF800000#32))))) (constant S_ .f32 0x00000000#32) reducesTo_S6912x6912_S6912_d1 h_S_)) (Host.log (Host.reduceAdd (Host.exp (select (ori (andi (andi (broadcastInDim S6912x6912 ![0, 1] bcast_S6912x1_S6912x6912_0_1 (broadcastInDim S6912x1 ![0] bcast_S6912_S6912x1_0 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912))) (broadcastInDim S6912x6912 ![0, 1] bcast_S1x6912_S6912x6912_0_1 (broadcastInDim S1x6912 ![1] bcast_S6912_S1x6912_1 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912)))) (noti (cmpi .eq (broadcastInDim S6912x6912 ![0, 1] bcast_S6912x1_S6912x6912_0_1 (broadcastInDim S6912x1 ![0] bcast_S6912_S6912x1_0 (shapeCast _ (m ((c.tc : Thread nD τ).loc main_arg1)) shapeCasts_S256x27_S6912))) (broadcastInDim S6912x6912 ![0, 1] bcast_S1x6912_S6912x6912_0_1 (broadcastInDim S1x6912 ![1] bcast_S6912_S1x6912_1 (shapeCast _ (m ((c.tc : Thread nD τ).loc main_arg1)) shapeCasts_S256x27_S6912)))))) (andi (broadcastInDim S6912x6912 ![0, 1] bcast_S6912x1_S6912x6912_0_1 (noti (broadcastInDim S6912x1 ![0] bcast_S6912_S6912x1_0 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912)))) (cmpi .eq (addi (iotaInDim S6912x6912 32 0) (broadcastInDim S6912x6912 ![] bcast_S_S6912x6912 (constantI S_ 32 0#32))) (iotaInDim S6912x6912 32 1)))) (Host.dotGeneral dot_S6912x1024_S1024x6912_S6912x6912_1_0_0_1_n_n none (Host.divf (shapeCast _ (m ((c.tc : Thread nD τ).loc main_arg0)) shapeCasts_S256x27x1024_S6912x1024) (broadcastInDim S6912x1024 ![0, 1] bcast_S6912x1_S6912x1024_0_1 (maximumf (broadcastInDim S6912x1 ![] bcast_S_S6912x1 (id (constant S_ .f32 0x2B8CBCCC#32))) (Host.sqrt (broadcastInDim S6912x1 ![0] bcast_S6912_S6912x1_0 (Host.reduceAdd (mulf (shapeCast _ (m ((c.tc : Thread nD τ).loc main_arg0)) shapeCasts_S256x27x1024_S6912x1024) (shapeCast _ (m ((c.tc : Thread nD τ).loc main_arg0)) shapeCasts_S256x27x1024_S6912x1024)) (constant S_ .f32 0x00000000#32) reducesTo_S6912x1024_S6912_d1 h_S_)))))) (transpose S1024x6912 [1, 0] (Host.divf (shapeCast _ (m ((c.tc : Thread nD τ).loc main_arg0)) shapeCasts_S256x27x1024_S6912x1024) (broadcastInDim S6912x1024 ![0, 1] bcast_S6912x1_S6912x1024_0_1 (maximumf (broadcastInDim S6912x1 ![] bcast_S_S6912x1 (id (constant S_ .f32 0x2B8CBCCC#32))) (Host.sqrt (broadcastInDim S6912x1 ![0] bcast_S6912_S6912x1_0 (Host.reduceAdd (mulf (shapeCast _ (m ((c.tc : Thread nD τ).loc main_arg0)) shapeCasts_S256x27x1024_S6912x1024) (shapeCast _ (m ((c.tc : Thread nD τ).loc main_arg0)) shapeCasts_S256x27x1024_S6912x1024)) (constant S_ .f32 0x00000000#32) reducesTo_S6912x1024_S6912_d1 h_S_)))))) transposes_S6912x1024_S1024x6912_1_0)) (broadcastInDim S6912x6912 ![] bcast_S_S6912x6912 (id (constant S_ .f32 0xFF800000#32))))) (constant S_ .f32 0x00000000#32) reducesTo_S6912x6912_S6912_d1 h_S_))) (broadcastInDim S6912 ![] bcast_S_S6912 (constant S_ .f32 0x00000000#32))) (Host.log1p (Host.exp (Host.negf (Host.absf (subf (addf (Host.log (Host.reduceAdd (Host.exp (select (ori (andi (andi (broadcastInDim S6912x6912 ![0, 1] bcast_S6912x1_S6912x6912_0_1 (broadcastInDim S6912x1 ![0] bcast_S6912_S6912x1_0 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912))) (broadcastInDim S6912x6912 ![0, 1] bcast_S1x6912_S6912x6912_0_1 (broadcastInDim S1x6912 ![1] bcast_S6912_S1x6912_1 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912)))) (cmpi .eq (broadcastInDim S6912x6912 ![0, 1] bcast_S6912x1_S6912x6912_0_1 (broadcastInDim S6912x1 ![0] bcast_S6912_S6912x1_0 (shapeCast _ (m ((c.tc : Thread nD τ).loc main_arg1)) shapeCasts_S256x27_S6912))) (broadcastInDim S6912x6912 ![0, 1] bcast_S1x6912_S6912x6912_0_1 (broadcastInDim S1x6912 ![1] bcast_S6912_S1x6912_1 (shapeCast _ (m ((c.tc : Thread nD τ).loc main_arg1)) shapeCasts_S256x27_S6912))))) (andi (broadcastInDim S6912x6912 ![0, 1] bcast_S6912x1_S6912x6912_0_1 (noti (broadcastInDim S6912x1 ![0] bcast_S6912_S6912x1_0 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912)))) (cmpi .eq (addi (iotaInDim S6912x6912 32 0) (broadcastInDim S6912x6912 ![] bcast_S_S6912x6912 (constantI S_ 32 0#32))) (iotaInDim S6912x6912 32 1)))) (Host.negf (Host.dotGeneral dot_S6912x1024_S1024x6912_S6912x6912_1_0_0_1_n_n none (Host.divf (shapeCast _ (m ((c.tc : Thread nD τ).loc main_arg0)) shapeCasts_S256x27x1024_S6912x1024) (broadcastInDim S6912x1024 ![0, 1] bcast_S6912x1_S6912x1024_0_1 (maximumf (broadcastInDim S6912x1 ![] bcast_S_S6912x1 (id (constant S_ .f32 0x2B8CBCCC#32))) (Host.sqrt (broadcastInDim S6912x1 ![0] bcast_S6912_S6912x1_0 (Host.reduceAdd (mulf (shapeCast _ (m ((c.tc : Thread nD τ).loc main_arg0)) shapeCasts_S256x27x1024_S6912x1024) (shapeCast _ (m ((c.tc : Thread nD τ).loc main_arg0)) shapeCasts_S256x27x1024_S6912x1024)) (constant S_ .f32 0x00000000#32) reducesTo_S6912x1024_S6912_d1 h_S_)))))) (transpose S1024x6912 [1, 0] (Host.divf (shapeCast _ (m ((c.tc : Thread nD τ).loc main_arg0)) shapeCasts_S256x27x1024_S6912x1024) (broadcastInDim S6912x1024 ![0, 1] bcast_S6912x1_S6912x1024_0_1 (maximumf (broadcastInDim S6912x1 ![] bcast_S_S6912x1 (id (constant S_ .f32 0x2B8CBCCC#32))) (Host.sqrt (broadcastInDim S6912x1 ![0] bcast_S6912_S6912x1_0 (Host.reduceAdd (mulf (shapeCast _ (m ((c.tc : Thread nD τ).loc main_arg0)) shapeCasts_S256x27x1024_S6912x1024) (shapeCast _ (m ((c.tc : Thread nD τ).loc main_arg0)) shapeCasts_S256x27x1024_S6912x1024)) (constant S_ .f32 0x00000000#32) reducesTo_S6912x1024_S6912_d1 h_S_)))))) transposes_S6912x1024_S1024x6912_1_0))) (broadcastInDim S6912x6912 ![] bcast_S_S6912x6912 (id (constant S_ .f32 0xFF800000#32))))) (constant S_ .f32 0x00000000#32) reducesTo_S6912x6912_S6912_d1 h_S_)) (Host.log (Host.reduceAdd (Host.exp (select (ori (andi (andi (broadcastInDim S6912x6912 ![0, 1] bcast_S6912x1_S6912x6912_0_1 (broadcastInDim S6912x1 ![0] bcast_S6912_S6912x1_0 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912))) (broadcastInDim S6912x6912 ![0, 1] bcast_S1x6912_S6912x6912_0_1 (broadcastInDim S1x6912 ![1] bcast_S6912_S1x6912_1 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912)))) (noti (cmpi .eq (broadcastInDim S6912x6912 ![0, 1] bcast_S6912x1_S6912x6912_0_1 (broadcastInDim S6912x1 ![0] bcast_S6912_S6912x1_0 (shapeCast _ (m ((c.tc : Thread nD τ).loc main_arg1)) shapeCasts_S256x27_S6912))) (broadcastInDim S6912x6912 ![0, 1] bcast_S1x6912_S6912x6912_0_1 (broadcastInDim S1x6912 ![1] bcast_S6912_S1x6912_1 (shapeCast _ (m ((c.tc : Thread nD τ).loc main_arg1)) shapeCasts_S256x27_S6912)))))) (andi (broadcastInDim S6912x6912 ![0, 1] bcast_S6912x1_S6912x6912_0_1 (noti (broadcastInDim S6912x1 ![0] bcast_S6912_S6912x1_0 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912)))) (cmpi .eq (addi (iotaInDim S6912x6912 32 0) (broadcastInDim S6912x6912 ![] bcast_S_S6912x6912 (constantI S_ 32 0#32))) (iotaInDim S6912x6912 32 1)))) (Host.dotGeneral dot_S6912x1024_S1024x6912_S6912x6912_1_0_0_1_n_n none (Host.divf (shapeCast _ (m ((c.tc : Thread nD τ).loc main_arg0)) shapeCasts_S256x27x1024_S6912x1024) (broadcastInDim S6912x1024 ![0, 1] bcast_S6912x1_S6912x1024_0_1 (maximumf (broadcastInDim S6912x1 ![] bcast_S_S6912x1 (id (constant S_ .f32 0x2B8CBCCC#32))) (Host.sqrt (broadcastInDim S6912x1 ![0] bcast_S6912_S6912x1_0 (Host.reduceAdd (mulf (shapeCast _ (m ((c.tc : Thread nD τ).loc main_arg0)) shapeCasts_S256x27x1024_S6912x1024) (shapeCast _ (m ((c.tc : Thread nD τ).loc main_arg0)) shapeCasts_S256x27x1024_S6912x1024)) (constant S_ .f32 0x00000000#32) reducesTo_S6912x1024_S6912_d1 h_S_)))))) (transpose S1024x6912 [1, 0] (Host.divf (shapeCast _ (m ((c.tc : Thread nD τ).loc main_arg0)) shapeCasts_S256x27x1024_S6912x1024) (broadcastInDim S6912x1024 ![0, 1] bcast_S6912x1_S6912x1024_0_1 (maximumf (broadcastInDim S6912x1 ![] bcast_S_S6912x1 (id (constant S_ .f32 0x2B8CBCCC#32))) (Host.sqrt (broadcastInDim S6912x1 ![0] bcast_S6912_S6912x1_0 (Host.reduceAdd (mulf (shapeCast _ (m ((c.tc : Thread nD τ).loc main_arg0)) shapeCasts_S256x27x1024_S6912x1024) (shapeCast _ (m ((c.tc : Thread nD τ).loc main_arg0)) shapeCasts_S256x27x1024_S6912x1024)) (constant S_ .f32 0x00000000#32) reducesTo_S6912x1024_S6912_d1 h_S_)))))) transposes_S6912x1024_S1024x6912_1_0)) (broadcastInDim S6912x6912 ![] bcast_S_S6912x6912 (id (constant S_ .f32 0xFF800000#32))))) (constant S_ .f32 0x00000000#32) reducesTo_S6912x6912_S6912_d1 h_S_))) (broadcastInDim S6912 ![] bcast_S_S6912 (constant S_ .f32 0x00000000#32))))))))) (broadcastInDim S6912 ![] bcast_S_S6912 (id (constant S_ .f32 0x00000000#32)))) (constant S_ .f32 0x00000000#32) reducesTo_S6912_S_d0 h_S_) (Host.reduceAdd (uitofp .f32 (shapeCast _ (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (addi ((fun j => (Host.reduce2 reducer_argmax_i1_i32 (cmpi .eq (extractStridedSlice S256x26 ![0, 1] (m ((c.tc : Thread nD τ).loc main_arg1)) slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)) (broadcastInDim S256 ![] bcast_S_S256 (constantI S_ 32 1#32)))))) shapeCasts_S256x27_S6912)) (constant S_ .f32 0x00000000#32) reducesTo_S6912_S_d0 h_S_)

/-- `res_main_v64` by its position among the values @main returns, 0 counting from 0: the name for hand proofs to cite, since
    a re-print renumbers `main_v64`. An abbreviation: it unfolds to the `res_main_v64` that `run` states. -/
abbrev res_out0 (m : (ℓ : Loc nD τ sig) → Buf (Elt F) ℓ) (c : Dev nD) : Buf (Elt F) ((c.tc : Thread nD τ).loc main_v64) := res_main_v64 m c

set_option maxRecDepth 8192 in
set_option maxHeartbeats 42000000 in
/-- The run of the reference, from any memory with zero counters: it ends with its result at the composed term of its
    arguments, and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64) = res_main_v64 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v64).trans (by simp only [ops, TRef.binary, TRef.nullary, TRef.quaternary, TRef.ternary, TRef.unary, TRef.toBuf, TRef.ofBuf, cast_eq]; after_results_simp <;> rfl <;> (unfold res_main_v64; rfl)),
      (h c main_arg0).trans (by simp only [ops, TRef.binary, TRef.nullary, TRef.quaternary, TRef.ternary, TRef.unary, TRef.toBuf, TRef.ofBuf, cast_eq]; after_results_simp <;> rfl),
      (h c main_arg1).trans (by simp only [ops, TRef.binary, TRef.nullary, TRef.quaternary, TRef.ternary, TRef.unary, TRef.toBuf, TRef.ofBuf, cast_eq]; after_results_simp <;> rfl)⟩)
    (run_seq scopedRefs_eq scopedSems_eq defs main (fun _ => ops) main_eq (fun _ => ops_sub) m ρ)

/-- The frame of the reference: it ends with its arguments as launched and every counter at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩) (run m ρ)

end Cert.ReferenceIdeal.Ref

end
-- ==== Proof.Value.Reference.lean ====
/- The reference's result, read at its indices. -/
module

public import proofs.«01_k».proof.Proof.Reference.Run
public import Idealize.ShloMosaic.Lib.Pointwise
public import proofs.«01_k».proof.Proof.Value.Loss

@[expose] public section

set_option maxRecDepth 16384

noncomputable section

namespace Cert.ReferenceIdeal.Ref

open Cert.ReferenceIdeal Cert.ReferenceIdeal.Gen Idealize.ShloMosaic Idealize.ShloMosaic.TcCoe Idealize.SL.Sem

variable (X : FVec Ideal S256x27x1024 .f32) (T : IVec S256x27 32)

/-- The first position of a zero label from position one on, one past it. -/
def fz : IVec S256 32 :=
  addi (fun j => (Host.reduce2 reducer_argmax_i1_i32 (cmpi .eq (extractStridedSlice S256x26 ![0, 1] T slices_S256x27_S256x26_0_1) (broadcastInDim S256x26 ![] bcast_S_S256x26 (constantI S_ 32 0#32))) (iotaInDim S256x26 32 1) (constantI S_ 1 0#1) (constantI S_ 32 0#32) reducesTo_S256x26_S256_d1 h_S_ j).2)
    (broadcastInDim S256 ![] bcast_S_S256 (constantI S_ 32 1#32))

/-- Which rows are valid. -/
def valid : IVec S6912 1 :=
  shapeCast S6912 (cmpi .slt (broadcastInDim S256x27 ![0, 1] bcast_S1x27_S256x27_0_1 (broadcastInDim S1x27 ![1] bcast_S27_S1x27_1 (iotaInDim S27 32 0))) (broadcastInDim S256x27 ![0, 1] bcast_S256x1_S256x27_0_1 (broadcastInDim S256x1 ![0] bcast_S256_S256x1_0 (fz T)))) shapeCasts_S256x27_S6912

/-- The rows divided by their lengths. -/
def feat : FVec Ideal S6912x1024 .f32 :=
  Host.divf (shapeCast S6912x1024 X shapeCasts_S256x27x1024_S6912x1024) (broadcastInDim S6912x1024 ![0, 1] bcast_S6912x1_S6912x1024_0_1 (maximumf (broadcastInDim S6912x1 ![] bcast_S_S6912x1 (constant S_ .f32 0x2B8CBCCC#32)) (Host.sqrt (broadcastInDim S6912x1 ![0] bcast_S6912_S6912x1_0 (Host.reduceAdd (mulf (shapeCast S6912x1024 X shapeCasts_S256x27x1024_S6912x1024) (shapeCast S6912x1024 X shapeCasts_S256x27x1024_S6912x1024)) (constant S_ .f32 0x00000000#32) reducesTo_S6912x1024_S6912_d1 h_S_)))))

/-- The products of the rows. -/
def sim (f : FVec Ideal S6912x1024 .f32) : FVec Ideal S6912x6912 .f32 :=
  Host.dotGeneral dot_S6912x1024_S1024x6912_S6912x6912_1_0_0_1_n_n none f (transpose S1024x6912 [1, 0] f transposes_S6912x1024_S1024x6912_1_0)

/-- Which pairs of rows have the same label. -/
def same : IVec S6912x6912 1 :=
  cmpi .eq (broadcastInDim S6912x6912 ![0, 1] bcast_S6912x1_S6912x6912_0_1 (broadcastInDim S6912x1 ![0] bcast_S6912_S6912x1_0 (shapeCast S6912 T shapeCasts_S256x27_S6912))) (broadcastInDim S6912x6912 ![0, 1] bcast_S1x6912_S6912x6912_0_1 (broadcastInDim S1x6912 ![1] bcast_S6912_S1x6912_1 (shapeCast S6912 T shapeCasts_S256x27_S6912)))

/-- Which pairs are of two valid rows. -/
def pair (v : IVec S6912 1) : IVec S6912x6912 1 :=
  andi (broadcastInDim S6912x6912 ![0, 1] bcast_S6912x1_S6912x6912_0_1 (broadcastInDim S6912x1 ![0] bcast_S6912_S6912x1_0 v)) (broadcastInDim S6912x6912 ![0, 1] bcast_S1x6912_S6912x6912_0_1 (broadcastInDim S1x6912 ![1] bcast_S6912_S1x6912_1 v))

/-- The diagonal at the rows that are not valid. -/
def diag (v : IVec S6912 1) : IVec S6912x6912 1 :=
  andi (broadcastInDim S6912x6912 ![0, 1] bcast_S6912x1_S6912x6912_0_1 (noti (broadcastInDim S6912x1 ![0] bcast_S6912_S6912x1_0 v))) (cmpi .eq (addi (iotaInDim S6912x6912 32 0) (broadcastInDim S6912x6912 ![] bcast_S_S6912x6912 (constantI S_ 32 0#32))) (iotaInDim S6912x6912 32 1))

/-- The logarithm of the sum, along a row, of the exponentials of what a mask keeps. -/
def lse (k : IVec S6912x6912 1) (s : FVec Ideal S6912x6912 .f32) : FVec Ideal S6912 .f32 :=
  Host.log (Host.reduceAdd (Host.exp (select k s (broadcastInDim S6912x6912 ![] bcast_S_S6912x6912 (constant S_ .f32 0xFF800000#32)))) (constant S_ .f32 0x00000000#32) reducesTo_S6912x6912_S6912_d1 h_S_)

/-- The argument of the softplus, per row. -/
def arg (v : IVec S6912 1) (sm : IVec S6912x6912 1) (s : FVec Ideal S6912x6912 .f32) : FVec Ideal S6912 .f32 :=
  addf (lse (ori (andi (pair v) sm) (diag v)) (Host.negf s)) (lse (ori (andi (pair v) (noti sm)) (diag v)) s)

/-- The softplus, per row. -/
def soft (z : FVec Ideal S6912 .f32) : FVec Ideal S6912 .f32 :=
  select (cmpf .une (subf z (broadcastInDim S6912 ![] bcast_S_S6912 (constant S_ .f32 0x00000000#32))) (subf z (broadcastInDim S6912 ![] bcast_S_S6912 (constant S_ .f32 0x00000000#32)))) (addf z (broadcastInDim S6912 ![] bcast_S_S6912 (constant S_ .f32 0x00000000#32))) (addf (maximumf z (broadcastInDim S6912 ![] bcast_S_S6912 (constant S_ .f32 0x00000000#32))) (Host.log1p (Host.exp (Host.negf (Host.absf (subf z (broadcastInDim S6912 ![] bcast_S_S6912 (constant S_ .f32 0x00000000#32))))))))

/-- The mean over the valid rows. -/
def mean (v : IVec S6912 1) (l : FVec Ideal S6912 .f32) : FVec Ideal S_ .f32 :=
  Host.divf (Host.reduceAdd (select v l (broadcastInDim S6912 ![] bcast_S_S6912 (constant S_ .f32 0x00000000#32))) (constant S_ .f32 0x00000000#32) reducesTo_S6912_S_d0 h_S_) (Host.reduceAdd (uitofp .f32 v) (constant S_ .f32 0x00000000#32) reducesTo_S6912_S_d0 h_S_)

/-- The result of the reference as a function of its two arguments. -/
def result : FVec Ideal S_ .f32 :=
  mean (valid T) (soft (arg (valid T) (same T) (sim (feat X))))

/-- The result that the run leaves is that function of the arguments. -/
theorem res_eq (m : (ℓ : Loc nD τ sig) → Buf (Elt Ideal) ℓ) (c : Dev nD) :
    res_main_v64 m c = result (m ((c.tc : Thread nD τ).loc main_arg0)) (m ((c.tc : Thread nD τ).loc main_arg1)) := rfl

/-- One step of the search for the first true bit, from nothing found. -/
theorem reducer_none (p : BitVec 1) (k : ℕ) (hk : k < 26) :
    reducer_argmax_i1_i32 (0#1, 0#32) (p, BitVec.ofNat 32 k) = if p = 1#1 then (1#1, BitVec.ofNat 32 k) else (0#1, 0#32) := by
  have h : (0#32).slt (BitVec.ofNat 32 k) = decide (0 < k) := Labels.slt_ofNat (by omega) (by omega)
  rcases (by decide : ∀ p : BitVec 1, p = 0#1 ∨ p = 1#1) p with rfl | rfl
  · rcases Nat.eq_zero_or_pos k with rfl | z
    · rfl
    · simp [reducer_argmax_i1_i32, IntOp.cmpi, IntOp.ori, IntOp.andi, Scalar.select, h, z]
  · simp [reducer_argmax_i1_i32, IntOp.cmpi, IntOp.ori, IntOp.andi, Scalar.select, h]

/-- One step of the search, with a true bit found. -/
theorem reducer_some (p : BitVec 1) (n k : ℕ) (hn : n < 26) (hk : k < 26) :
    reducer_argmax_i1_i32 (1#1, BitVec.ofNat 32 n) (p, BitVec.ofNat 32 k) = (1#1, BitVec.ofNat 32 (if p = 1#1 then min n k else n)) := by
  have h : (BitVec.ofNat 32 n).slt (BitVec.ofNat 32 k) = decide (n < k) := Labels.slt_ofNat (by omega) (by omega)
  rcases (by decide : ∀ p : BitVec 1, p = 0#1 ∨ p = 1#1) p with rfl | rfl
  · simp [reducer_argmax_i1_i32, IntOp.cmpi, IntOp.ori, IntOp.andi, Scalar.select, h]
  · by_cases c : n < k
    · simp [reducer_argmax_i1_i32, IntOp.cmpi, IntOp.ori, IntOp.andi, Scalar.select, h, c, Nat.min_eq_left (Nat.le_of_lt c)]
    · simp [reducer_argmax_i1_i32, IntOp.cmpi, IntOp.ori, IntOp.andi, Scalar.select, h, c, Nat.min_eq_right (Nat.le_of_not_lt c)]

/-- The search over a list of bits with their places: nothing found and all bits false, or the least place of a true bit. -/
theorem search (l : List (BitVec 1 × BitVec 32)) (hl : ∀ p ∈ l, ∃ k : ℕ, k < 26 ∧ p.2 = BitVec.ofNat 32 k) :
    (l.foldl reducer_argmax_i1_i32 (0#1, 0#32) = (0#1, 0#32) ∧ ∀ p ∈ l, p.1 ≠ 1#1) ∨
    ∃ n : ℕ, n < 26 ∧ l.foldl reducer_argmax_i1_i32 (0#1, 0#32) = (1#1, BitVec.ofNat 32 n) ∧ (1#1, BitVec.ofNat 32 n) ∈ l ∧
      ∀ k : ℕ, k < n → (1#1, BitVec.ofNat 32 k) ∉ l := by
  induction l using List.reverseRecOn with
  | nil => exact Or.inl ⟨rfl, by simp⟩
  | append_singleton l x ih =>
    obtain ⟨p, w⟩ := x
    obtain ⟨k, hk, rfl : w = _⟩ := hl (p, w) (by simp)
    have inj : ∀ a : ℕ, a < 26 → BitVec.ofNat 32 a = BitVec.ofNat 32 k → a = k := fun a ha e => by
      have := congrArg BitVec.toNat e
      simp only [BitVec.toNat_ofNat] at this
      omega
    rw [List.foldl_append]
    rcases ih fun q hq => hl q (by simp [hq]) with ⟨e, none⟩ | ⟨n, hn, e, mem, least⟩
    · simp only [e, List.foldl_cons, List.foldl_nil, reducer_none p k hk]
      by_cases c : p = 1#1
      · subst c
        refine Or.inr ⟨k, hk, by simp, by simp, fun a ha m => ?_⟩
        rcases List.mem_append.1 m with m | m
        · exact none _ m rfl
        · have := inj a (by omega) (congrArg Prod.snd (List.mem_singleton.1 m))
          omega
      · refine Or.inl ⟨by simp [c], fun q hq => ?_⟩
        rcases List.mem_append.1 hq with m | m
        · exact none _ m
        · rw [List.mem_singleton.1 m]; exact c
    · simp only [e, List.foldl_cons, List.foldl_nil, reducer_some p n k hn hk]
      refine Or.inr ?_
      by_cases c : p = 1#1
      · subst c
        refine ⟨min n k, by omega, by simp, ?_, fun a ha m => ?_⟩
        · rcases le_total n k with h | h
          · rw [min_eq_left h]; exact List.mem_append_left _ mem
          · rw [min_eq_right h]; simp
        · rcases List.mem_append.1 m with m | m
          · exact least a (by omega) m
          · have := inj a (by omega) (congrArg Prod.snd (List.mem_singleton.1 m))
            omega
      · refine ⟨n, hn, by simp [c], List.mem_append_left _ mem, fun a ha m => ?_⟩
        rcases List.mem_append.1 m with m | m
        · exact least a ha m
        · exact c (congrArg Prod.fst (List.mem_singleton.1 m)).symm

/-- What the search runs over in batch `b`: every later place, with whether its label is zero. -/
theorem mem_fiber (x : S256x26.Idx → BitVec 1) (y : S256x26.Idx → BitVec 32) (b : Fin 256) (p : BitVec 1 × BitVec 32) :
    p ∈ Host.argReduceFiber x y reducesTo_S256x26_S256_d1 (ix1 b) ↔ ∃ k : Fin 26, p = (x (ix2 b k), y (ix2 b k)) := by
  have drop : ∀ z : S256x26.Idx, reducesTo_S256x26_S256_d1.drop z = ix1 (z 0) := fun z => by
    funext c
    obtain rfl : c = 0 := Subsingleton.elim _ _
    exact Fin.ext (reducesTo_S256x26_S256_d1.drop_apply_val_of_eq z 0 0)
  simp only [Host.argReduceFiber, List.mem_map, List.mem_filter, List.mem_finRange, true_and, decide_eq_true_eq, drop]
  constructor
  · rintro ⟨n, hn, rfl⟩
    generalize S256x26.rowMajor.symm n = z at hn ⊢
    have hb : z 0 = b := congrFun hn 0
    refine ⟨z 1, ?_⟩
    have hz : z = ix2 b (z 1) := by
      funext c
      match c with
      | 0 => exact hb
      | 1 => rfl
    exact congrArg (fun z => (x z, y z)) hz
  · rintro ⟨k, rfl⟩
    exact ⟨S256x26.rowMajor (ix2 b k), by rw [Equiv.symm_apply_apply]; rfl, by rw [Equiv.symm_apply_apply]⟩

/-- The reference's search finds the end of each batch. -/
theorem fz_end (b : Fin 256) : ∃ e, Labels.End (fun t => T (ix2 b t)) e ∧ fz T (ix1 b) = BitVec.ofNat 32 e := by
  pointwise [fz]
  rw [Host.reduce2_eq_foldl_fiber]
  set x : S256x26.Idx → BitVec 1 := cmpi .eq (extractStridedSlice S256x26 ![0, 1] T slices_S256x27_S256x26_0_1) (broadcastInDim S256x26 ![] bcast_S_S256x26 (constantI S_ 32 0#32)) with hx
  set y : S256x26.Idx → BitVec 32 := iotaInDim S256x26 32 1 with hy
  have xk : ∀ k : Fin 26, x (ix2 b k) = 1#1 ↔ T (ix2 b ⟨k.val + 1, by omega⟩) = 0#32 := fun k => by
    have : x (ix2 b k) = IntOp.cmpi .eq (T (ix2 b ⟨k.val + 1, by omega⟩)) 0#32 := by
      rw [hx]; pointwise []
      simp only [Nat.add_comm 1]
    rw [this]
    by_cases c : T (ix2 b ⟨k.val + 1, by omega⟩) = 0#32 <;> simp [IntOp.cmpi, c, beq_eq_decide]
  have yk : ∀ k : Fin 26, y (ix2 b k) = BitVec.ofNat 32 k.val := fun k => rfl
  have mem : ∀ k : Fin 26, (1#1, BitVec.ofNat 32 k.val) ∈ Host.argReduceFiber x y reducesTo_S256x26_S256_d1 (ix1 b) ↔ T (ix2 b ⟨k.val + 1, by omega⟩) = 0#32 := fun k => by
    rw [mem_fiber, ← xk]
    constructor
    · rintro ⟨n, hn⟩
      have e := congrArg BitVec.toNat (congrArg Prod.snd hn)
      simp only [yk, BitVec.toNat_ofNat] at e
      rw [show k = n from Fin.ext (by omega)]
      exact (congrArg Prod.fst hn).symm
    · intro h
      exact ⟨k, by rw [h, yk]⟩
  have succ : ∀ n : ℕ, n < 26 → IntOp.addi (BitVec.ofNat 32 n) 1#32 = BitVec.ofNat 32 (n + 1) := fun n hn => by
    simp [IntOp.addi, BitVec.ofNat_add]
  rcases search (Host.argReduceFiber x y reducesTo_S256x26_S256_d1 (ix1 b)) (fun p hp => by
      obtain ⟨k, rfl⟩ := (mem_fiber x y b p).1 hp
      exact ⟨k.val, k.isLt, rfl⟩) with ⟨e, none⟩ | ⟨n, hn, e, h1, least⟩
  · refine ⟨1, Or.inl ⟨rfl, fun t ht hz => ?_⟩, ?_⟩
    · refine none (1#1, BitVec.ofNat 32 (t.val - 1)) ((mem ⟨t.val - 1, by omega⟩).2 ?_) rfl
      simpa [Nat.sub_add_cancel ht] using hz
    · exact congrArg (fun r : BitVec 1 × BitVec 32 => IntOp.addi r.2 1#32) e
  · refine ⟨n + 1, Or.inr ⟨by omega, ⟨by omega, (mem ⟨n, hn⟩).1 h1⟩, fun t ht hl hz => ?_⟩, ?_⟩
    · refine least (t.val - 1) (by omega) ((mem ⟨t.val - 1, by omega⟩).2 ?_)
      simpa [Nat.sub_add_cancel ht] using hz
    · exact (congrArg (fun r : BitVec 1 × BitVec 32 => IntOp.addi r.2 1#32) e).trans (succ n hn)

open Classical in
/-- A row's bit says whether it is in use. -/
theorem valid_at (i : Fin 6912) : valid T (ix1 i) = BitVec.ofBool (decide (Loss.Valid T i)) := by
  obtain ⟨e, he, h⟩ := fz_end T (Loss.row i)
  have : valid T (ix1 i) = IntOp.cmpi .slt (BitVec.ofNat 32 (i.val % 27)) (fz T (ix1 (Loss.row i))) := by
    pointwise [valid]
  rw [this, h]
  exact Labels.used_bit he (Loss.col i)

/-- The rows divided by their lengths. -/
theorem feat_at (i : Fin 6912) (d : Fin 1024) : feat X (ix2 i d) = Loss.feat X i d := by
  have : feat X (ix2 i d) = Ideal.div (X (ix3 (Loss.row i) (Loss.col i) d)) (max (Ideal.ofBits .f32 0x2B8CBCCC#32) (Ideal.sqrt (∑ x, X (ix3 (Loss.row i) (Loss.col i) x) * X (ix3 (Loss.row i) (Loss.col i) x)))) := by
    pointwise [feat]
  rw [this, max_comm]
  exact Rows.div_ne (Rows.len_ne fun k => X (ix3 (Loss.row i) (Loss.col i) k))

/-- The products of the rows. -/
theorem sim_at (i j : Fin 6912) : sim (feat X) (ix2 i j) = Loss.sim (Loss.feat X) i j := by
  have : ∀ f : FVec Ideal S6912x1024 .f32, sim f (ix2 i j) = ∑ k : Fin 1024, f (ix2 i k) * f (ix2 j k) := fun f => by
    pointwise [sim]
  rw [this]
  simp only [feat_at]
  rfl

/-- A choice by a row in use, another row and a comparison: the bits of both must be true. -/
theorem choose (u : BitVec 1) (p q : Bool) (a b : EReal) :
    Scalar.select (IntOp.ori (IntOp.andi (IntOp.andi 1#1 (BitVec.ofBool p)) (BitVec.ofBool q)) (IntOp.andi (~~~1#1) u)) a b
      = if p = true ∧ q = true then a else b := by
  cases p <;> cases q <;> simp [Scalar.select, IntOp.ori, IntOp.andi]

/-- The bit of a negation. -/
theorem not_bit (q : Bool) : ~~~BitVec.ofBool q = BitVec.ofBool (!q) := by cases q <;> rfl

open Classical in
/-- The argument of the softplus at a row in use. -/
theorem arg_at (i : Fin 6912) (h : Loss.Valid T i) : arg (valid T) (same T) (sim (feat X)) (ix1 i) =
    Rows.lse (fun j => Loss.Valid T j ∧ Loss.lab T i = Loss.lab T j) (fun j => -Loss.sim (Loss.feat X) i j) +
      Rows.lse (fun j => Loss.Valid T j ∧ Loss.lab T i ≠ Loss.lab T j) (fun j => Loss.sim (Loss.feat X) i j) := by
  have hs : ∀ j, same T (ix2 i j) = BitVec.ofBool (decide (Loss.lab T i = Loss.lab T j)) := fun j => by
    have : same T (ix2 i j) = IntOp.cmpi .eq (T (ix2 (Loss.row i) (Loss.col i))) (T (ix2 (Loss.row j) (Loss.col j))) := by
      pointwise [same]
    rw [this]
    simp only [IntOp.cmpi, beq_eq_decide, Loss.lab]
    congr!
  have hi : valid T (ix1 i) = 1#1 := by rw [valid_at, decide_eq_true h]; rfl
  pointwise [arg, lse, pair, diag]
  simp only [hi, hs, valid_at, sim_at, not_bit, choose, Rows.neg_inf, Rows.lse, decide_eq_true_eq, Bool.not_eq_true', decide_eq_false_iff_not]

/-- The softplus. -/
theorem soft_at (z : FVec Ideal S6912 .f32) (i : Fin 6912) : soft z (ix1 i) = Rows.soft (z (ix1 i)) := by
  pointwise [soft]
  simp only [ne_eq, not_true_eq_false, if_false]
  rfl

/-- A choice by a truth value's bit. -/
theorem select_bit (p : Bool) (a b : EReal) : Scalar.select (BitVec.ofBool p) a b = if p = true then a else b := by
  cases p <;> rfl

/-- A truth value's bit as a number. -/
theorem bit_number (p : Bool) : (FloatOps.uitofp .f32 (BitVec.ofBool p) : Ideal .f32) = (if p = true then 1 else 0 : EReal) := by
  have : (FloatOps.uitofp .f32 (BitVec.ofBool p) : Ideal .f32) = (((BitVec.ofBool p).toNat : ℝ) : EReal) := rfl
  rw [this]
  cases p <;> simp

open Classical in
/-- The reference's result is the loss. -/
theorem result_at : result X T ix0 = Loss.refLoss (Loss.Valid T) (Loss.lab T) (Loss.feat X) := by
  have : ∀ (v : IVec S6912 1) (l : FVec Ideal S6912 .f32), mean v l ix0 =
      Ideal.div (∑ x, Scalar.select (v (ix1 x)) (l (ix1 x)) 0) (∑ x, (FloatOps.uitofp .f32 (v (ix1 x)) : Ideal .f32)) := fun v l => by
    pointwise [mean]
  unfold result
  rw [this, Loss.refLoss, Loss.count]
  refine congrArg₂ Ideal.div (Finset.sum_congr rfl fun i _ => ?_) (Finset.sum_congr rfl fun i _ => ?_)
  · rw [valid_at, soft_at, select_bit]
    refine (if_congr decide_eq_true_iff rfl rfl).trans ?_
    by_cases h : Loss.Valid T i
    · rw [if_pos h, if_pos h, arg_at X T i h]
    · rw [if_neg h, if_neg h]
  · rw [valid_at, bit_number]
    exact if_congr decide_eq_true_iff rfl rfl

end Cert.ReferenceIdeal.Ref

end
-- ==== Proof.Value.Pre.lean ====
/- What the precondition says of the second argument. -/
module

public import proofs.«01_k».proof.Proof.Gen.Pre_two_labels
public import proofs.«01_k».proof.Proof.Value.Reference
public import Idealize.ShloMosaic.Lib.ReduceAll
public import Idealize.ShloMosaic.Lib.Routing.OpsOrder

@[expose] public section

set_option maxRecDepth 16384

noncomputable section

namespace Cert.Pre_two_labels

open Cert.Pre_two_labels Cert.Pre_two_labels.Gen Idealize.ShloMosaic

variable (X : FVec Ideal S256x27x1024 .f32) (T : IVec S256x27 32)

/-- Which places hold a label in use. -/
def used : IVec S256x27 1 :=
  cmpi .slt (broadcastInDim S256x27 ![0, 1] bcast_S1x27_S256x27_0_1 (broadcastInDim S1x27 ![1] bcast_S27_S1x27_1 (iotaInDim S27 32 0)))
    (broadcastInDim S256x27 ![0, 1] bcast_S256x1_S256x27_0_1 (broadcastInDim S256x1 ![0] bcast_S256_S256x1_0 (Cert.ReferenceIdeal.Ref.fz T)))

/-- Which samples begin with a label. -/
def begun : IVec S256 1 :=
  cmpi .ne (shapeCast S256 (extractStridedSlice S256x1 ![0, 0] T slices_S256x27_S256x1_0_0) shapeCasts_S256x1_S256) (broadcastInDim S256 ![] bcast_S_S256 (constantI S_ 32 0#32))

/-- Which places hold a label other than the very first. -/
def other : IVec S256x27 1 :=
  cmpi .ne T (broadcastInDim S256x27 ![] bcast_S_S256x27 (shapeCast S_ (extractStridedSlice S1x1 ![0, 0] T slices_S256x27_S1x1_0_0) shapeCasts_S1x1_S_))

/-- The precondition is a conjunction over the samples and a disjunction over the places. -/
theorem fn_eq : fn X T = andi (Host.reduce IntOp.andi (begun T) (constantI S_ 1 1#1) reducesTo_S256_S_d0 h_S_)
    (Host.reduce IntOp.ori (andi (used T) (other T)) (constantI S_ 1 0#1) reducesTo_S256x27_S_d0_1 h_S_) := rfl

/-- The bit of a difference. -/
theorem ne_of_bit {a b : BitVec 32} (h : IntOp.cmpi .ne a b = 1#1) : a ≠ b := by
  rintro rfl
  simp [IntOp.cmpi] at h

/-- A sample that begins with a label has one at its first place. -/
theorem begun_at (b : Fin 256) (h : begun T (ix1 b) = 1#1) : T (ix2 b ⟨0, by omega⟩) ≠ 0#32 := by
  have e : begun T (ix1 b) = IntOp.cmpi .ne (T (ix2 b 0)) 0#32 := by pointwise [begun]
  exact ne_of_bit (e ▸ h)

/-- A place that holds another label differs from the very first place. -/
theorem other_at (b : Fin 256) (t : Fin 27) (h : other T (ix2 b t) = 1#1) : T (ix2 b t) ≠ T (ix2 ⟨0, by omega⟩ ⟨0, by omega⟩) := by
  have e : other T (ix2 b t) = IntOp.cmpi .ne (T (ix2 b t)) (T (ix2 0 0)) := by pointwise [other]
  exact ne_of_bit (e ▸ h)

/-- A place in use, by its bit. -/
theorem used_at (b : Fin 256) (t : Fin 27) (h : used T (ix2 b t) = 1#1) : Labels.Used (fun t => T (ix2 b t)) t := by
  classical
  have e : used T (ix2 b t) = IntOp.cmpi .slt (BitVec.ofNat 32 t.val) (Cert.ReferenceIdeal.Ref.fz T (ix1 b)) := by pointwise [used]
  obtain ⟨n, hn, hz⟩ := Cert.ReferenceIdeal.Ref.fz_end T b
  rw [e, hz, Labels.used_bit hn t] at h
  by_contra hu
  simp [hu] at h

/-- A disjunction over the places that holds does so at one of them. -/
theorem some_place (x : IVec S256x27 1) (h : Host.reduce IntOp.ori x (constantI S_ 1 0#1) reducesTo_S256x27_S_d0_1 h_S_ ix0 = 1#1) :
    ∃ b t, x (ix2 b t) = 1#1 := by
  have e : Host.reduce IntOp.ori x (constantI S_ 1 0#1) reducesTo_S256x27_S_d0_1 h_S_ ix0 =
      Finset.fold IntOp.ori (0#1) (fun k : Fin 256 × Fin 27 => x (ix2 k.1 k.2)) Finset.univ := by pointwise []
  obtain ⟨k, -, hk⟩ := (Idealize.ShloMosaic.Routing.fold_ori _ _).1 (e ▸ h)
  exact ⟨k.1, k.2, hk⟩

/-- Under the precondition every sample begins with a label, and two rows in use have different labels. -/
theorem reads (h : fn X T = fun _ => 1#1) : (∀ b, T (ix2 b ⟨0, by omega⟩) ≠ 0#32) ∧
    ∃ i j, Loss.Valid T i ∧ Loss.Valid T j ∧ Loss.lab T i ≠ Loss.lab T j := by
  rw [fn_eq] at h
  obtain ⟨ha, ho⟩ := IntOp.andi_eq_one.1 (congrFun h ix0)
  refine ⟨fun b => begun_at T b (Host.reduce_andi_all _ _ _ _ ix0 ha (ix1 b)), ?_⟩
  obtain ⟨b, t, hx⟩ := some_place _ ho
  obtain ⟨hu, hd⟩ := IntOp.andi_eq_one.1 hx
  have hr : Loss.row ⟨27 * b.val + t.val, by omega⟩ = b := Fin.ext (by show (27 * b.val + t.val) / 27 = b.val; omega)
  have hc : Loss.col ⟨27 * b.val + t.val, by omega⟩ = t := Fin.ext (by show (27 * b.val + t.val) % 27 = t.val; omega)
  refine ⟨⟨27 * b.val + t.val, by omega⟩, _, ?_, Loss.valid_first ⟨0, by omega⟩, ?_⟩
  · unfold Loss.Valid
    rw [hr, hc]
    exact used_at T b t hu
  · unfold Loss.lab
    have r0 : Loss.row ⟨27 * (⟨0, by omega⟩ : Fin 256).val, by omega⟩ = ⟨0, by omega⟩ := Fin.ext (by show 27 * 0 / 27 = 0; omega)
    have c0 : Loss.col ⟨27 * (⟨0, by omega⟩ : Fin 256).val, by omega⟩ = ⟨0, by omega⟩ := Fin.ext (by show 27 * 0 % 27 = 0; omega)
    rw [hr, hc, r0, c0]
    exact other_at T b t hd

end Cert.Pre_two_labels

end
-- ==== Proof.lean ====
module

public import proofs.«01_k».proof.Defs
public import proofs.«01_k».proof.Proof.BitExact.Run
public import proofs.«01_k».proof.Proof.Gen.Pre_two_labels
public import proofs.«01_k».proof.Proof.Value.Kernel
public import proofs.«01_k».proof.Proof.Value.Pre
public import Idealize.ShloMosaic.Adequacy
public import Idealize.ShloMosaic.Init

@[expose] public section

noncomputable section

namespace Cert.Proof

open Idealize.ShloMosaic Idealize.ShloMosaic.TcCoe Idealize.SL.Sem

/-- From one pair of arguments that satisfies the precondition, the kernel and the reference leave the same result. -/
theorem same_result (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hp : Cert.Pre_two_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) = fun _ => 1#1)
    (hx : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (ht : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.ReferenceIdeal.Ref.res_main_v64 m' c : FVec Ideal Cert.KernelIdeal.S_ .f32) = Cert.KernelIdeal.Fr.W6 m g c Cert.KernelIdeal.main_v0 := by
  obtain ⟨h, two⟩ := Cert.Pre_two_labels.reads _ _ hp
  have r := Cert.ReferenceIdeal.Ref.result_at (m ((c.tc : Thread Cert.KernelIdeal.nD Cert.KernelIdeal.τ).loc Cert.KernelIdeal.main_arg0)) (m ((c.tc : Thread Cert.KernelIdeal.nD Cert.KernelIdeal.τ).loc Cert.KernelIdeal.main_arg1))
  rw [Cert.ReferenceIdeal.Ref.res_eq, hx, ht]
  funext y
  obtain rfl : y = ix0 := Subsingleton.elim _ _
  exact r.trans ((Loss.kernel_eq _ h two).symm.trans (Cert.KernelIdeal.Val.result_at m g c).symm)

/-- Everything the certificate claims. -/
theorem claim : Cert.Claim :=
  ⟨Cert.Kernel.Gen.facts, Cert.KernelIdeal.Gen.facts, Cert.ReferenceIdeal.Gen.facts, Cert.Pre_two_labels.Gen.facts,
    fun m ρ _ => Cert.Kernel.Fr.frame m ρ,
    fun m ρ _ => Cert.KernelIdeal.Fr.frame m ρ,
    fun m ρ _ => Cert.KernelIdeal.Fr.frame m ρ,
    fun m ρ _ => Cert.ReferenceIdeal.Ref.frame m ρ,
    fun m ρ _ => Cert.ReferenceIdeal.Ref.frame m ρ,
    IdealRules.named_const.statement Cert.KernelIdeal.κ "log2e" .bf16 0x3FB9#16 (((Real.log 2)⁻¹ : ℝ) : EReal) rfl,
    fun m g m' g' hp ha => ⟨fun c => Cert.KernelIdeal.Fr.W6 m g c Cert.KernelIdeal.main_v0,
      (θ_run _ _ _).mono (fun _ h c => ⟨(h.1 c).2.2, (h.1 c).1, (h.1 c).2.1⟩) (Cert.KernelIdeal.Fr.run m g),
      (θ_run _ _ _).mono (fun _ h c => ⟨(h c).1.trans (same_result m g m' c (hp c) (ha c).1 (ha c).2), (h c).2.1, (h c).2.2⟩) (Cert.ReferenceIdeal.Ref.run m' g')⟩⟩

end Cert.Proof

end
